-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 2048]⟩ ⟨2, ![512, 2048]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S4x128x2048 : Shape := ⟨3, ![4, 128, 2048]⟩
abbrev S4 : Shape := ⟨1, ![4]⟩
abbrev S_ : Shape := ⟨0, ![]⟩
abbrev S512x128 : Shape := ⟨2, ![512, 128]⟩
abbrev S1 : Shape := ⟨1, ![1]⟩
abbrev S1x128x2048 : Shape := ⟨3, ![1, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S128x2048, .f32⟩
  | .local _ .vmem, ⟨0, _⟩ => ⟨S512x512, .f32⟩
  | .local _ .vmem, ⟨1, _⟩ => ⟨S512x2048, .f32⟩
  | .local _ .vmem, ⟨2, _⟩ => ⟨S128x2048, .f32⟩
  | .local _ .vmem, ⟨3, _⟩ => ⟨S512x2048, .f32⟩
  | .local _ .vmem, ⟨4, _⟩ => ⟨S4x128x2048, .f32⟩
  | .local _ .vmem, ⟨5, _⟩ => ⟨S4x128x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v44 : BitVec 1 := Scalar.cmpi .sle v8 c1_i32_26
  let v45 : BitVec 32 := Scalar.extui v44
  let c0_i32_27 : BitVec 32 := 0#32
  let v46 : BitVec 1 := Scalar.cmpi .ne v45 c0_i32_27
  v46

def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v118 : BitVec 1 := Scalar.cmpi .eq v8 c0_i32_73
  let v119 : BitVec 32 := Scalar.extui v118
  let c0_i32_74 : BitVec 32 := 0#32
  let v120 : BitVec 1 := Scalar.cmpi .ne v119 c0_i32_74
  v120

def k0_dev3 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_104 : BitVec 32 := 1#32
  let v155 : BitVec 32 := Scalar.muli v19 c1_i32_104
  let v156 : BitVec 32 := Scalar.addi v154 v155
  v156.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_81 : BitVec 32 := 0#32
  let v129 : BitVec 1 := Scalar.cmpi .eq v8 c0_i32_81
  let v130 : BitVec 32 := Scalar.extui v129
  let c0_i32_82 : BitVec 32 := 0#32
  let v131 : BitVec 1 := Scalar.cmpi .ne v130 c0_i32_82
  v131

def k0_dev4 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_104 : BitVec 32 := 1#32
  let v155 : BitVec 32 := Scalar.muli v19 c1_i32_104
  let v156 : BitVec 32 := Scalar.addi v154 v155
  v156.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_89 : BitVec 32 := 0#32
  let v140 : BitVec 1 := Scalar.cmpi .eq v8 c0_i32_89
  let v141 : BitVec 32 := Scalar.extui v140
  let c0_i32_90 : BitVec 32 := 0#32
  let v142 : BitVec 1 := Scalar.cmpi .ne v141 c0_i32_90
  v142

def k0_dev5 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_104 : BitVec 32 := 1#32
  let v155 : BitVec 32 := Scalar.muli v19 c1_i32_104
  let v156 : BitVec 32 := Scalar.addi v154 v155
  v156.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v47 : BitVec 1 := Scalar.cmpi .sge v8 c2_i32_28
  let v48 : BitVec 32 := Scalar.extui v47
  let c0_i32_29 : BitVec 32 := 0#32
  let v49 : BitVec 1 := Scalar.cmpi .ne v48 c0_i32_29
  v49

def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_74 : BitVec 32 := 3#32
  let v118 : BitVec 1 := Scalar.cmpi .eq v8 c3_i32_74
  let v119 : BitVec 32 := Scalar.extui v118
  let c0_i32_75 : BitVec 32 := 0#32
  let v120 : BitVec 1 := Scalar.cmpi .ne v119 c0_i32_75
  v120

def k0_dev6 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_104 : BitVec 32 := 1#32
  let v155 : BitVec 32 := Scalar.muli v30 c1_i32_104
  let v156 : BitVec 32 := Scalar.addi v154 v155
  v156.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_82 : BitVec 32 := 3#32
  let v129 : BitVec 1 := Scalar.cmpi .eq v8 c3_i32_82
  let v130 : BitVec 32 := Scalar.extui v129
  let c0_i32_83 : BitVec 32 := 0#32
  let v131 : BitVec 1 := Scalar.cmpi .ne v130 c0_i32_83
  v131

def k0_dev7 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_104 : BitVec 32 := 1#32
  let v155 : BitVec 32 := Scalar.muli v30 c1_i32_104
  let v156 : BitVec 32 := Scalar.addi v154 v155
  v156.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v140 : BitVec 1 := Scalar.cmpi .eq v8 c3_i32_90
  let v141 : BitVec 32 := Scalar.extui v140
  let c0_i32_91 : BitVec 32 := 0#32
  let v142 : BitVec 1 := Scalar.cmpi .ne v141 c0_i32_91
  v142

def k0_dev8 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v153 : BitVec 32 := Scalar.muli v5 c4_i32_103
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_104 : BitVec 32 := 1#32
  let v155 : BitVec 32 := Scalar.muli v30 c1_i32_104
  let v156 : BitVec 32 := Scalar.addi v154 v155
  v156.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v50 : BitVec 1 := Scalar.cmpi .eq v8 c1_i32_30
  let v51 : BitVec 32 := Scalar.extui v50
  let c0_i32_31 : BitVec 32 := 0#32
  let v52 : BitVec 1 := Scalar.cmpi .ne v51 c0_i32_31
  v52

def k0_dev9 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v129 : BitVec 32 := Scalar.muli v2 c16_i32_90
  let v130 : BitVec 32 := Scalar.addi c0_i32_91 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v131 : BitVec 32 := Scalar.muli v5 c4_i32_92
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_93 : BitVec 32 := 1#32
  let v133 : BitVec 32 := Scalar.muli v19 c1_i32_93
  let v134 : BitVec 32 := Scalar.addi v132 v133
  v134.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_32 : BitVec 32 := 2#32
  let v53 : BitVec 1 := Scalar.cmpi .eq v8 c2_i32_32
  let v54 : BitVec 32 := Scalar.extui v53
  let c0_i32_33 : BitVec 32 := 0#32
  let v55 : BitVec 1 := Scalar.cmpi .ne v54 c0_i32_33
  v55

def k0_dev10 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v129 : BitVec 32 := Scalar.muli v2 c16_i32_92
  let v130 : BitVec 32 := Scalar.addi c0_i32_93 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v131 : BitVec 32 := Scalar.muli v5 c4_i32_94
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_95 : BitVec 32 := 1#32
  let v133 : BitVec 32 := Scalar.muli v30 c1_i32_95
  let v134 : BitVec 32 := Scalar.addi v132 v133
  v134.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v56 : BitVec 1 := Scalar.cmpi .eq v8 c1_i32_34
  let v57 : BitVec 32 := Scalar.extui v56
  let c0_i32_35 : BitVec 32 := 0#32
  let v58 : BitVec 1 := Scalar.cmpi .ne v57 c0_i32_35
  v58

def k0_dev11 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v129 : BitVec 32 := Scalar.muli v2 c16_i32_90
  let v130 : BitVec 32 := Scalar.addi c0_i32_91 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v131 : BitVec 32 := Scalar.muli v5 c4_i32_92
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_93 : BitVec 32 := 1#32
  let v133 : BitVec 32 := Scalar.muli v19 c1_i32_93
  let v134 : BitVec 32 := Scalar.addi v132 v133
  v134.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_36 : BitVec 32 := 2#32
  let v59 : BitVec 1 := Scalar.cmpi .eq v8 c2_i32_36
  let v60 : BitVec 32 := Scalar.extui v59
  let c0_i32_37 : BitVec 32 := 0#32
  let v61 : BitVec 1 := Scalar.cmpi .ne v60 c0_i32_37
  v61

def k0_dev12 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v129 : BitVec 32 := Scalar.muli v2 c16_i32_90
  let v130 : BitVec 32 := Scalar.addi c0_i32_91 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v131 : BitVec 32 := Scalar.muli v5 c4_i32_92
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_93 : BitVec 32 := 1#32
  let v133 : BitVec 32 := Scalar.muli v19 c1_i32_93
  let v134 : BitVec 32 := Scalar.addi v132 v133
  v134.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 1 := Scalar.cmpi .eq v8 c1_i32_38
  let v63 : BitVec 32 := Scalar.extui v62
  let c0_i32_39 : BitVec 32 := 0#32
  let v64 : BitVec 1 := Scalar.cmpi .ne v63 c0_i32_39
  v64

def k0_dev13 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v129 : BitVec 32 := Scalar.muli v2 c16_i32_92
  let v130 : BitVec 32 := Scalar.addi c0_i32_93 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v131 : BitVec 32 := Scalar.muli v5 c4_i32_94
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_95 : BitVec 32 := 1#32
  let v133 : BitVec 32 := Scalar.muli v30 c1_i32_95
  let v134 : BitVec 32 := Scalar.addi v132 v133
  v134.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v65 : BitVec 1 := Scalar.cmpi .eq v8 c2_i32_40
  let v66 : BitVec 32 := Scalar.extui v65
  let c0_i32_41 : BitVec 32 := 0#32
  let v67 : BitVec 1 := Scalar.cmpi .ne v66 c0_i32_41
  v67

def k0_dev14 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v129 : BitVec 32 := Scalar.muli v2 c16_i32_90
  let v130 : BitVec 32 := Scalar.addi c0_i32_91 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v131 : BitVec 32 := Scalar.muli v5 c4_i32_92
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_93 : BitVec 32 := 1#32
  let v133 : BitVec 32 := Scalar.muli v30 c1_i32_93
  let v134 : BitVec 32 := Scalar.addi v132 v133
  v134.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/- Parts of a buffer as a device holds them, and the rules of the operations the kernel performs on them: loading
   and storing a rectangle of a buffer while holding that rectangle's slice (or the slice with its unit axis
   squeezed away), and sending one held slice onto another. Nothing here mentions the kernel's protocol. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

section Slots

variable (c : Dev nD) {s s' : Shape} {e : EltTy}

/-- Device `c` holds the part of its buffer that `m` names, whole, and it reads `X` there. -/
abbrev own (m : Memref sig .tc .vmem s e) (X : s.Idx → Elt F e) : sProp 𝕄 :=
  owns (Ix := Unit) (Name := ℕ) (U := UU) (Lvl := ℕ) (c : Thread nD τ) m fullShare X

/-- Device `c` holds the part of its buffer that `m` names, at contents not stated. -/
abbrev free (m : Memref sig .tc .vmem s e) : sProp 𝕄 := iprop(∃ X, own (F := F) c m X)

omit [FloatOps F] in
theorem own_free (m : Memref sig .tc .vmem s e) (X : s.Idx → Elt F e) : own c m X ⊢ free (F := F) c m := by
  iintro H; iexists X; iexact H

omit [FloatOps F] in
/-- What a squeezed slice reads is what the slice reads, recast. -/
theorem read_squeeze (m : Memref sig .tc .vmem s e) (h : s.Squeezes s') (h' : s.ShapeCasts s') (f) :
    (m.squeeze s' h).view.read (Elt F) f = shapeCast s' (m.view.read (Elt F) f) h' := rfl

omit [FloatOps F] in
theorem shapeCast_shapeCast {α : Type} (h : s.ShapeCasts s') (h' : s'.ShapeCasts s) (x : s.Idx → α) :
    shapeCast s (shapeCast s' x h) h' = x := by
  funext j; show x _ = x j; rw [Shape.reshapeEquiv_reshapeEquiv]; congr 1; exact Shape.reshapeEquiv_self _ _

/-- A load of a rectangle by a device that holds that rectangle's slice: the value loaded is what the slice holds. -/
theorem wp_load_slice {α : Type} {Q : α → sProp 𝕄} {m : Memref sig .tc .vmem s e} {r : Rect s} {hr : ∀ a, r.stride a = 1} {hl : m.view.LoadsAt r.toLoadRect}
    {k : (r.shape.Idx → Elt F e) → Prog (TpuEff nD τ sig (Elt F) Λ₀ .tc) α} (X : r.shape.Idx → Elt F e) :
    own c (m.slice r hr) X
      ⊢ iprop((own c (m.slice r hr) X -∗ wp frame (wpE (defs₀ (F := F)) 𝒱₀ (c : Thread nD τ) none) Set.univ (k X) Q)
          -∗ wp frame (wpE (defs₀ (F := F)) 𝒱₀ (c : Thread nD τ) none) Set.univ (.op (.load m r.toLoadRect hl) k) Q) := by
  unfold own owns
  iintro ⟨%f, %hf, H⟩ Hk
  subst hf
  iapply (wp_load_rect 𝒱₀ (c : Thread nD τ) none Set.univ (m := m) (r := r) (S := (m.access r).set) (fun _ h => h)) $$ H
  iintro H
  iapply Hk
  iexists f; isplitr; · ipureintro; rfl
  iexact H

/-- The same, the slice held with its unit axes squeezed away: the value loaded recasts to what is held. -/
theorem wp_load_squeeze {α : Type} {Q : α → sProp 𝕄} {m : Memref sig .tc .vmem s e} {r : Rect s} {hr : ∀ a, r.stride a = 1} {hs : r.shape.Squeezes s'}
    (h' : r.shape.ShapeCasts s') {hl : m.view.LoadsAt r.toLoadRect}
    {k : (r.shape.Idx → Elt F e) → Prog (TpuEff nD τ sig (Elt F) Λ₀ .tc) α} (X : s'.Idx → Elt F e) :
    own c ((m.slice r hr).squeeze s' hs) X
      ⊢ iprop((∀ v, ⌜shapeCast s' v h' = X⌝ -∗ own c ((m.slice r hr).squeeze s' hs) X
              -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  unfold own owns
  iintro ⟨%f, %hf, H⟩ Hk
  iapply (wp_load_rect 𝒱₀ (c : Thread nD τ) none Set.univ (m := m) (r := r)
    (S := ((m.slice r hr).squeeze s' hs).view.set) (by exact le_of_eq (View.set_reshape (m.access r) hs.numel_eq).symm)) $$ H
  iintro H
  iapply Hk $$ %_ [] [H]
  · ipureintro; rw [← hf]; rfl
  · iexists f; isplitr; · ipureintro; exact hf
    iexact H

/-- A store over a rectangle by a device that holds that rectangle's slice, at any contents: it then holds what was stored. -/
theorem wp_store_slice {α : Type} {Q : α → sProp 𝕄} {m : Memref sig .tc .vmem s e} {r : Rect s} {hr : ∀ a, r.stride a = 1} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    free (F := F) c (m.slice r hr)
      ⊢ iprop((own c (m.slice r hr) w -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold free own owns
  iintro ⟨%X, %f, %hf, H⟩ Hk
  iapply (wp_store 𝒱₀ (c : Thread nD τ) none Set.univ (m := m) (r := r) (Mk := Finset.univ)
    (S := (m.access r).set) (fun _ h => h)) $$ H
  iintro H
  iapply Hk
  iexists _; isplitr; swap; · iexact H
  ipureintro
  exact View.read_write_univ _ _

/-- The same, the slice held with its unit axes squeezed away. -/
theorem wp_store_squeeze {α : Type} {Q : α → sProp 𝕄} {m : Memref sig .tc .vmem s e} {r : Rect s} {hr : ∀ a, r.stride a = 1} {hs : r.shape.Squeezes s'}
    (h' : r.shape.ShapeCasts s') {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    free (F := F) c ((m.slice r hr).squeeze s' hs)
      ⊢ iprop((own c ((m.slice r hr).squeeze s' hs) (shapeCast s' w h')
              -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold free own owns
  iintro ⟨%X, %f, %hf, H⟩ Hk
  iapply (wp_store 𝒱₀ (c : Thread nD τ) none Set.univ (m := m) (r := r) (Mk := Finset.univ)
    (S := ((m.slice r hr).squeeze s' hs).view.set) (by exact le_of_eq (View.set_reshape (m.access r) hs.numel_eq).symm)) $$ H
  iintro H
  iapply Hk
  iexists _; isplitr; swap; · iexact H
  ipureintro
  rw [read_squeeze (m.slice r hr) hs h']
  congr 1
  exact View.read_write_univ _ _

end Slots

section Send

variable (Rd : Rounds.Schedule (GSem nD τ sig) Bool (MT nD τ sig Unit (Elt F) ℕ UU ℕ))

/-- Device `c` sends the part `src` of its buffer over the part `dst` of device `n`'s: it pays the one duty of its own
    send cell with the source part back and the one duty of `n`'s receive cell with the destination holding what the source
    held, and has the send cell's credit. -/
theorem wp_send_own {s : Shape} {e : EltTy} (c n n' : Dev nD) (hn : n = n') {src dst : Memref sig .tc .vmem s e} {sS sem : DmaSem sig} {κ₁ κ₂ : ℕ}
    {hsc : (dst : Memref sig (Dev.tc n : Thread nD τ).2.kind .vmem s e).view.ref.isScScratch = false}
    {hsrc : src.view.WordExact} {hdst : dst.view.WordExact}
    {hsem : DmaTarget.Typed .vmem (.dma sem) (.remote (Dev.tc n : Thread nD τ) dst (.dma sS) hsc)}
    {α : Type} {Q : α → sProp 𝕄} {k : PUnit → Prog (TpuEff nD τ sig (Elt F) Λ₀ .tc) α}
    (X : s.Idx → Elt F e) (W : Waits sig Unit) (N : ℕ) (hN : dst.view.amount (.dma sem) = N)
    (hd₁ : false ∈ Rd.duties ((c : Thread nD τ), .dma sS) 0) (hd₂ : false ∈ Rd.duties ((n' : Thread nD τ), .dma sem) 0)
    (ha₁ : Rd.amount ((c : Thread nD τ), .dma sS) 0 false = N) (ha₂ : Rd.amount ((n' : Thread nD τ), .dma sem) 0 false = N)
    (hp₁ : own c src X ⊢ Rd.payload ((c : Thread nD τ), .dma sS) 0 false)
    (hp₂ : own n' dst X ⊢ Rd.payload ((n' : Thread nD τ), .dma sem) 0 false)
    (O₀ O : CellTallies nD τ sig Unit) (hO : O₀ = O + tallyAt ((n' : Thread nD τ), .dma sem) () N) :
    iprop(cellInv ER Rd κ₁ ((c : Thread nD τ), .dma sS) ∗ cellInv ER Rd κ₂ ((n' : Thread nD τ), .dma sem)
        ∗ own c src X ∗ free (F := F) n' dst
        ∗ owes (c : Thread nD τ) O₀ W
        ∗ dutyTok ER ((c : Thread nD τ), .dma sS) 0 false ∗ reached ER ((c : Thread nD τ), .dma sS) 0
        ∗ dutyTok ER ((n' : Thread nD τ), .dma sem) 0 false ∗ reached ER ((n' : Thread nD τ), .dma sem) 0)
      ⊢ iprop(((cred (tallyAt ((c : Thread nD τ), .dma sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hsem) k) Q) := by
  subst hn
  unfold free own owns
  iintro ⟨HI1, HI2, Hs, ⟨%Y, Hd⟩, HO, Ht1, Hr1, Ht2, Hr2⟩
  icases Hs with ⟨%f, %hf, Hs⟩
  icases Hd with ⟨%g, %hg, Hd⟩
  iapply (Rounds.wp_send_pointsTo 𝒱₀ ER Rd (c : Thread nD τ) none (κ₁ := κ₁) (κ₂ := κ₂)
    (r₁ := 0) (r₂ := 0) (d₁ := false) (d₂ := false) (fd := g) (fs := f) (q := fullShare) hd₁ hd₂
    () () N hN ha₁ ha₂ O hO (W := W)
    (by
      refine BI.Entails.trans (show (_ : sProp 𝕄) ⊢ own c src X from ?_) hp₁
      unfold own owns
      iintro H; iexists f; isplitr; · ipureintro; exact hf
      iexact H)
    (by
      refine BI.Entails.trans (show (_ : sProp 𝕄) ⊢ own n dst X from ?_) hp₂
      unfold own owns
      iintro H; iexists _; isplitr; swap; · iexact H
      ipureintro; rw [View.read_write_univ]; exact hf)) $$ [HI1 HI2 Hs Hd HO Ht1 Hr1 Ht2 Hr2]
  isplitl [HI1]; · iexact HI1
  isplitl [HI2]; · iexact HI2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Send

end Cert.KernelIdealProof

end
-- ==== Proof.Ring.lean ====
/- The protocol: the mesh, the semaphore cells, what each landing and each signal hands over, what each device owes at
   launch and the order its waits rest on. -/
module

public import proofs.«01_k».proof.Proof.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: device `16 x + 4 y + z`, and its neighbours along `z` -/

set_option backward.proofsInPublic true in
/-- The device after `c` along the mesh's last axis, cyclically; -/
def nxt (c : Dev nD) : Dev nD := ⟨c.val - c.val % 4 + (c.val % 4 + 1) % 4, by have h : c.val < 32 := c.isLt; show _ < 32; omega⟩
set_option backward.proofsInPublic true in
/-- the device before it. -/
def prv (c : Dev nD) : Dev nD := ⟨c.val - c.val % 4 + (c.val % 4 + 3) % 4, by have h : c.val < 32 := c.isLt; show _ < 32; omega⟩
/-- A device's place along the mesh's last axis. -/
def zof (c : Dev nD) : ℕ := c.val % 4

theorem zof_lt (c : Dev nD) : zof c < 4 := Nat.mod_lt _ (by decide)
theorem prv_nxt (c : Dev nD) : prv (nxt c) = c := by revert c; decide
theorem nxt_prv (c : Dev nD) : nxt (prv c) = c := by revert c; decide
theorem zof_nxt (c : Dev nD) : zof (nxt c) = (zof c + 1) % 4 := by revert c; decide
theorem zof_prv (c : Dev nD) : zof (prv c) = (zof c + 3) % 4 := by revert c; decide

/-- The kernel's device chains: the first signal names `prv c`, the second `nxt c`, each transfer one of the two. -/
theorem dev1_eq (c : Dev nD) : (⟨k0_dev1 c, k0_dev1_lt c⟩ : Dev nD) = prv c := Fin.ext (by revert c; decide +kernel)
theorem dev2_eq (c : Dev nD) : (⟨k0_dev2 c, k0_dev2_lt c⟩ : Dev nD) = nxt c := Fin.ext (by revert c; decide +kernel)
theorem dev3_eq (c : Dev nD) (h h') : (⟨k0_dev3 c, k0_dev3_lt c h h'⟩ : Dev nD) = nxt c := Fin.ext (by show k0_dev3 c = (nxt c).val; clear h h'; revert c; decide +kernel)
theorem dev4_eq (c : Dev nD) (h h') : (⟨k0_dev4 c, k0_dev4_lt c h h'⟩ : Dev nD) = nxt c := Fin.ext (by show k0_dev4 c = (nxt c).val; clear h h'; revert c; decide +kernel)
theorem dev5_eq (c : Dev nD) (h h') : (⟨k0_dev5 c, k0_dev5_lt c h h'⟩ : Dev nD) = nxt c := Fin.ext (by show k0_dev5 c = (nxt c).val; clear h h'; revert c; decide +kernel)
theorem dev6_eq (c : Dev nD) (h h') : (⟨k0_dev6 c, k0_dev6_lt c h h'⟩ : Dev nD) = prv c := Fin.ext (by show k0_dev6 c = (prv c).val; clear h h'; revert c; decide +kernel)
theorem dev7_eq (c : Dev nD) (h h') : (⟨k0_dev7 c, k0_dev7_lt c h h'⟩ : Dev nD) = prv c := Fin.ext (by show k0_dev7 c = (prv c).val; clear h h'; revert c; decide +kernel)
theorem dev8_eq (c : Dev nD) (h h') : (⟨k0_dev8 c, k0_dev8_lt c h h'⟩ : Dev nD) = prv c := Fin.ext (by show k0_dev8 c = (prv c).val; clear h h'; revert c; decide +kernel)
theorem dev9_eq (c : Dev nD) (h) : (⟨k0_dev9 c, k0_dev9_lt c h⟩ : Dev nD) = nxt c := Fin.ext (by show k0_dev9 c = (nxt c).val; clear h; revert c; decide +kernel)
theorem dev10_eq (c : Dev nD) (h) : (⟨k0_dev10 c, k0_dev10_lt c h⟩ : Dev nD) = prv c := Fin.ext (by show k0_dev10 c = (prv c).val; clear h; revert c; decide +kernel)
theorem dev11_eq (c : Dev nD) (h) : (⟨k0_dev11 c, k0_dev11_lt c h⟩ : Dev nD) = nxt c := Fin.ext (by show k0_dev11 c = (nxt c).val; clear h; revert c; decide +kernel)
theorem dev12_eq (c : Dev nD) (h) : (⟨k0_dev12 c, k0_dev12_lt c h⟩ : Dev nD) = nxt c := Fin.ext (by show k0_dev12 c = (nxt c).val; clear h; revert c; decide +kernel)
theorem dev13_eq (c : Dev nD) (h) : (⟨k0_dev13 c, k0_dev13_lt c h⟩ : Dev nD) = prv c := Fin.ext (by show k0_dev13 c = (prv c).val; clear h; revert c; decide +kernel)
theorem dev14_eq (c : Dev nD) (h) : (⟨k0_dev14 c, k0_dev14_lt c h⟩ : Dev nD) = prv c := Fin.ext (by show k0_dev14 c = (prv c).val; clear h; revert c; decide +kernel)

/-- Which of the kernel's conditions on its device hold, place by place. -/
theorem conds (c : Dev nD) :
    ((k0_cond1 c = 1#1) = (zof c ≤ 1)) ∧ ((k0_cond2 c = 1#1) = (zof c = 0)) ∧ ((k0_cond3 c = 1#1) = (zof c = 0)) ∧ ((k0_cond4 c = 1#1) = (zof c = 0))
    ∧ ((k0_cond5 c = 1#1) = (2 ≤ zof c)) ∧ ((k0_cond6 c = 1#1) = (zof c = 3)) ∧ ((k0_cond7 c = 1#1) = (zof c = 3)) ∧ ((k0_cond8 c = 1#1) = (zof c = 3))
    ∧ ((k0_cond9 c = 1#1) = (zof c = 1)) ∧ ((k0_cond10 c = 1#1) = (zof c = 2)) ∧ ((k0_cond11 c = 1#1) = (zof c = 1)) ∧ ((k0_cond12 c = 1#1) = (zof c = 2))
    ∧ ((k0_cond13 c = 1#1) = (zof c = 1)) ∧ ((k0_cond14 c = 1#1) = (zof c = 2)) := by
  simp only [eq_iff_iff]; revert c; decide +kernel

/-- The word the kernel computes its place from is its place. -/
theorem zword (c : Dev nD) : Scalar.remsi (Scalar.divsi (Dev.word c) 1#32) 4#32 = BitVec.ofNat 32 (zof c) := by revert c; decide +kernel

/-! ## The memrefs: the two operands' blocks, the result's, the four chunks of the local product, the four slots of
    each landing buffer -/

abbrev xM : Memref sig .tc .vmem S512x512 .f32 := Memref.whole cc0_stg0_0
abbrev yM : Memref sig .tc .vmem S512x2048 .f32 := Memref.whole cc0_stg1_0
abbrev oM : Memref sig .tc .vmem S128x2048 .f32 := Memref.whole cc0_stg2_0
abbrev pM : Memref sig .tc .vmem S512x2048 .f32 := Memref.whole cc0_scratch0
abbrev rM : Memref sig .tc .vmem S4x128x2048 .f32 := Memref.whole cc0_scratch1
abbrev lM : Memref sig .tc .vmem S4x128x2048 .f32 := Memref.whole cc0_scratch2

theorem inbX (k : Fin 4) : ∀ a, (![0, 128 * k.val] : Fin 2 → Nat) a + S512x128.size a ≤ S512x512.size a := by revert k; decide
theorem inbP (k : Fin 4) : ∀ a, (![128 * k.val, 0] : Fin 2 → Nat) a + S128x2048.size a ≤ S512x2048.size a := by revert k; decide
theorem inbS (k : Fin 4) : ∀ a, (![k.val, 0, 0] : Fin 3 → Nat) a + S1x128x2048.size a ≤ S4x128x2048.size a := by revert k; decide

/-- Columns `128 k ..` of the left operand's block; rows `128 k ..` of the local product; slot `k` of a landing buffer. -/
abbrev xrect (k : Fin 4) : Rect S512x512 := Rect.unit (s := S512x512) ![0, 128 * k.val] S512x128.size (inbX k)
abbrev prect (k : Fin 4) : Rect S512x2048 := Rect.unit (s := S512x2048) ![128 * k.val, 0] S128x2048.size (inbP k)
abbrev srect (k : Fin 4) : Rect S4x128x2048 := Rect.unit (s := S4x128x2048) ![k.val, 0, 0] S1x128x2048.size (inbS k)

abbrev pslice (k : Fin 4) : Memref sig .tc .vmem S128x2048 .f32 := pM.slice (prect k) (fun _ => rfl)
abbrev rslot (k : Fin 4) : Memref sig .tc .vmem S128x2048 .f32 := (rM.slice (srect k) (fun _ => rfl)).squeeze S128x2048 squeezes_S1x128x2048_S128x2048
abbrev lslot (k : Fin 4) : Memref sig .tc .vmem S128x2048 .f32 := (lM.slice (srect k) (fun _ => rfl)).squeeze S128x2048 squeezes_S1x128x2048_S128x2048

/-! ## The cells -/

/-- The runtime's barrier semaphore (unscoped). -/
abbrev barS : Sem sig := (SemArray.scalar (sig.barrier 0 rfl) : Sems sig S_).sem

set_option backward.proofsInPublic true in
/-- The kernel's sixteen transfer semaphores by kind — 0 the rightward sends', 1 the rightward receives', 2 the leftward
    sends', 3 the leftward receives' — and chunk. -/
def dsem (kd k : Fin 4) : DmaSem sig := ⟨3 + 4 * kd.val + k.val, by have h1 := kd.isLt; have h2 := k.isLt; show _ < 19; omega⟩
set_option backward.proofsInPublic true in
/-- A transfer semaphore's kind and chunk. -/
def kindOf (q : DmaSem sig) : Fin 4 := ⟨(q.val - 3) / 4 % 4, Nat.mod_lt _ (by decide)⟩
set_option backward.proofsInPublic true in
def chunkOf (q : DmaSem sig) : Fin 4 := ⟨(q.val - 3) % 4, Nat.mod_lt _ (by decide)⟩

theorem kindOf_dsem (kd k : Fin 4) : kindOf (dsem kd k) = kd := by revert kd k; decide
theorem chunkOf_dsem (kd k : Fin 4) : chunkOf (dsem kd k) = k := by revert kd k; decide
theorem three_le_dsem (kd k : Fin 4) : 3 ≤ (dsem kd k).val := by revert kd k; decide

abbrev barCell (c : Dev nD) : GSem nD τ sig := ((c : Thread nD τ), .reg barS)
abbrev gc (c : Dev nD) (kd k : Fin 4) : GSem nD τ sig := ((c : Thread nD τ), .dma (dsem kd k))

/-- The credit of one chunk's transfer. -/
abbrev N : ℕ := (rslot 0 : Memref sig .tc .vmem S128x2048 .f32).view.dmaCredit
theorem N_pos : 0 < N := View.dmaCredit_pos _ (by decide)

/-! ## Contents -/

/-- The operands' blocks as device `c` stages them. -/
def xstg (c : Dev nD) : (cc0_stg0_0 : Ref sig .tc).ty.Contents (Elt F) :=
  (win0_0.blk (0 : Fin 1)).view.read (Elt F) ((s₀ m ρ).mem ((c : Thread nD τ).loc main_arg0))
def ystg (c : Dev nD) : (cc0_stg1_0 : Ref sig .tc).ty.Contents (Elt F) :=
  (win0_1.blk (0 : Fin 1)).view.read (Elt F) ((s₀ m ρ).mem ((c : Thread nD τ).loc main_arg1))

/-- Chunk `k` of device `c`'s own product: the transpose of columns `128 k ..` of its left block, times its right block. -/
def P (c : Dev nD) (k : Fin 4) : Vec F S128x2048 .f32 :=
  k0_pay3 (xM.view.readAt (Elt F) (xrect k).toLoadRect (xstg m ρ c)) (ystg m ρ c)

/-- What device `c` sends rightward of chunk `k`: its own product added to what came from the left, the leftmost device
    its own product alone. -/
def Sr (c : Dev nD) (k : Fin 4) : Vec F S128x2048 .f32 :=
  if zof c = 0 then P m ρ c k
  else if zof c = 1 then addf (P m ρ (prv c) k) (P m ρ c k)
  else addf (addf (P m ρ (prv (prv c)) k) (P m ρ (prv c) k)) (P m ρ c k)
/-- What it sends leftward of chunk `k`, likewise. -/
def Sl (c : Dev nD) (k : Fin 4) : Vec F S128x2048 .f32 :=
  if zof c = 3 then P m ρ c k
  else if zof c = 2 then addf (P m ρ (nxt c) k) (P m ρ c k)
  else addf (addf (P m ρ (nxt (nxt c)) k) (P m ρ (nxt c) k)) (P m ρ c k)

theorem Sr_first (c : Dev nD) (k : Fin 4) (h : zof c = 0) : Sr m ρ c k = P m ρ c k := if_pos h
theorem Sl_first (c : Dev nD) (k : Fin 4) (h : zof c = 3) : Sl m ρ c k = P m ρ c k := if_pos h
theorem Sr_step (c : Dev nD) (k : Fin 4) (h : zof c = 1 ∨ zof c = 2) : addf (Sr m ρ (prv c) k) (P m ρ c k) = Sr m ρ c k := by
  rcases h with h | h <;> simp [Sr, zof_prv, h]
theorem Sl_step (c : Dev nD) (k : Fin 4) (h : zof c = 1 ∨ zof c = 2) : addf (Sl m ρ (nxt c) k) (P m ρ c k) = Sl m ρ c k := by
  rcases h with h | h <;> simp [Sl, zof_nxt, h]

/-- The kernel's result on device `c`: its own product's chunk of its own place, plus what came from the left, plus what
    came from the right. -/
def outAt (c : Dev nD) : (cc0_stg2_0 : Ref sig .tc).ty.Contents (Elt F) :=
  if zof c = 0 then addf (P m ρ c 0) (Sl m ρ (nxt c) 0)
  else if zof c = 1 then addf (addf (P m ρ c 1) (Sr m ρ (prv c) 1)) (Sl m ρ (nxt c) 1)
  else if zof c = 2 then addf (addf (P m ρ c 2) (Sr m ρ (prv c) 2)) (Sl m ρ (nxt c) 2)
  else addf (P m ρ c 3) (Sr m ρ (prv c) 3)

/-! ## The schedule -/

/-- Whether the device at place `z` has a transfer on its semaphore of kind `kd` for chunk `k`: it sends rightward the
    chunks after its place and receives from the left, unless it is the first, its own and those; leftward symmetrically. -/
def act (z : ℕ) (kd k : Fin 4) : Prop :=
  match kd with
  | 0 => z < k.val
  | 1 => 1 ≤ z ∧ z ≤ k.val
  | 2 => k.val < z
  | 3 => k.val ≤ z ∧ z ≤ 2

instance act_decidable (z : ℕ) (kd k : Fin 4) : Decidable (act z kd k) := by
  unfold act; split <;> infer_instance

/-- What a completed transfer hands the owner of its semaphore: a send gives the sent part back, a receive the landing slot
    holding what was sent. -/
def dmaPay (c : Dev nD) (kd k : Fin 4) : sProp 𝕄 :=
  match kd with
  | 0 => if zof c = 0 then own c (pslice k) (Sr m ρ c k) else own c (rslot k) (Sr m ρ c k)
  | 1 => own c (rslot k) (Sr m ρ (prv c) k)
  | 2 => if zof c = 3 then own c (pslice k) (Sl m ρ c k) else own c (lslot k) (Sl m ρ c k)
  | 3 => own c (lslot k) (Sl m ρ (nxt c) k)

/-- What `nxt c`'s barrier signal hands `c`: the landing slots of `nxt c` that `c` sends rightward into; -/
def barPayR (c : Dev nD) : sProp 𝕄 := bigSep Finset.univ fun k : Fin 4 => if zof c < k.val then free (F := F) (nxt c) (rslot k) else iprop(emp)
/-- what `prv c`'s hands it: the landing slots of `prv c` that `c` sends leftward into. -/
def barPayL (c : Dev nD) : sProp 𝕄 := bigSep Finset.univ fun k : Fin 4 => if k.val < zof c then free (F := F) (prv c) (lslot k) else iprop(emp)

/-- One round, round 0: a barrier cell has the two duties `true` (from `nxt`) and `false` (from `prv`) of one unit each; an
    active transfer cell the duty `false` of the chunk's credit. -/
def ringRd : Rounds.Schedule (GSem nD τ sig) Bool 𝕄 where
  duties g r := if r = 0 ∧ g.1.2 = .tc then
      (match g.2 with
        | .reg b => if b = barS then Finset.univ else ∅
        | .dma q => if 3 ≤ q.val ∧ act (zof g.1.1) (kindOf q) (chunkOf q) then {false} else ∅)
    else ∅
  unitless _ := False
  amount g _ _ := match g.2 with | .reg _ => 1 | .dma _ => N
  payload g _ d := match g.2 with
    | .reg _ => if d then barPayR g.1.1 else barPayL g.1.1
    | .dma q => dmaPay m ρ g.1.1 (kindOf q) (chunkOf q)
  amount_pos g _ _ _ := by
    obtain ⟨_, sm⟩ := g
    cases sm
    · exact Nat.one_pos
    · exact N_pos

instance dmaPay_storable (c : Dev nD) (kd k : Fin 4) : BI.Storable (upEmb : UEmb _ 𝕄) (dmaPay m ρ c kd k) := by
  unfold dmaPay; (repeat' split) <;> infer_instance
instance barPayR_storable (c : Dev nD) : BI.Storable (upEmb : UEmb _ 𝕄) (barPayR (F := F) c) := by
  unfold barPayR
  have h (k : Fin 4) : BI.Storable (upEmb : UEmb _ 𝕄) (if zof c < k.val then free (F := F) (nxt c) (rslot k) else iprop(emp)) := by
    split <;> infer_instance
  infer_instance
instance barPayL_storable (c : Dev nD) : BI.Storable (upEmb : UEmb _ 𝕄) (barPayL (F := F) c) := by
  unfold barPayL
  have h (k : Fin 4) : BI.Storable (upEmb : UEmb _ 𝕄) (if k.val < zof c then free (F := F) (prv c) (lslot k) else iprop(emp)) := by
    split <;> infer_instance
  infer_instance

instance ringRd_payload_storable (g : GSem nD τ sig) (r : ℕ) (d : Bool) :
    BI.Storable (upEmb : UEmb _ 𝕄) ((ringRd (F := F) m ρ).payload g r d) := by
  dsimp only [ringRd]; (repeat' split) <;> infer_instance

section Sched
variable (c : Dev nD) (kd k : Fin 4)

theorem duties_bar : (ringRd (F := F) m ρ).duties (barCell c) 0 = Finset.univ := by
  dsimp only [ringRd]; rw [if_pos ⟨rfl, rfl⟩, if_pos rfl]
theorem duties_act (h : act (zof c) kd k) : (ringRd (F := F) m ρ).duties (gc c kd k) 0 = {false} := by
  dsimp only [ringRd]; rw [if_pos ⟨rfl, rfl⟩, kindOf_dsem, chunkOf_dsem, if_pos ⟨three_le_dsem kd k, h⟩]
theorem duties_idle (h : ¬ act (zof c) kd k) : (ringRd (F := F) m ρ).duties (gc c kd k) 0 = ∅ := by
  dsimp only [ringRd]; rw [if_pos ⟨rfl, rfl⟩, kindOf_dsem, chunkOf_dsem, if_neg (fun h' => h h'.2)]
theorem duties_later (g : GSem nD τ sig) : ∀ r, 1 ≤ r → (ringRd (F := F) m ρ).duties g r = ∅ :=
  fun r hr => by dsimp only [ringRd]; rw [if_neg fun h => by omega]
theorem duties_idle_all (h : ¬ act (zof c) kd k) : ∀ r, 0 ≤ r → (ringRd (F := F) m ρ).duties (gc c kd k) r = ∅ := fun r _ => by
  rcases Nat.eq_zero_or_pos r with rfl | hr
  · exact duties_idle m ρ c kd k h
  · exact duties_later m ρ _ r hr

theorem amount_bar (d : Bool) : (ringRd (F := F) m ρ).amount (barCell c) 0 d = 1 := rfl
theorem amount_dma (d : Bool) : (ringRd (F := F) m ρ).amount (gc c kd k) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (h : act (zof c) kd k) : (ringRd (F := F) m ρ).expect (gc c kd k) 0 = N := by
  unfold Schedule.expect Schedule.amountOf; rw [duties_act m ρ c kd k h, Finset.sum_singleton, amount_dma]

theorem payload_bar_true : (ringRd (F := F) m ρ).payload (barCell c) 0 true = barPayR c := rfl
theorem payload_bar_false : (ringRd (F := F) m ρ).payload (barCell c) 0 false = barPayL c := rfl
theorem payload_dma (d : Bool) : (ringRd (F := F) m ρ).payload (gc c kd k) 0 d = dmaPay m ρ c kd k := by
  dsimp only [ringRd]; rw [kindOf_dsem, chunkOf_dsem]

theorem rest_bar : bigSep ((ringRd (F := F) m ρ).duties (barCell c) 0 \ ∅) (fun d => (ringRd (F := F) m ρ).payload (barCell c) 0 d)
    = iprop(barPayL c ∗ barPayR c) := by
  rw [Finset.sdiff_empty, duties_bar, bigSep_univ_eq_bigSepL [false, true] (by decide) (by decide), bigSepL_cons_cons, bigSepL_singleton,
    payload_bar_false, payload_bar_true]
  rfl
theorem rest_dma (h : act (zof c) kd k) :
    bigSep ((ringRd (F := F) m ρ).duties (gc c kd k) 0 \ ∅) (fun d => (ringRd (F := F) m ρ).payload (gc c kd k) 0 d) = dmaPay m ρ c kd k := by
  rw [Finset.sdiff_empty, duties_act m ρ c kd k h, bigSep_singleton, payload_dma]

end Sched

/-! ## What each core owes at launch; the levels -/

/-- The credit device `d` owes its right neighbour's receive cell for chunk `k`, and its left neighbour's. -/
def nR (d : Dev nD) (k : Fin 4) : ℕ := if zof d < k.val then N else 0
def nL (d : Dev nD) (k : Fin 4) : ℕ := if k.val < zof d then N else 0

/-- Device `d` owes each neighbour's receive cells the chunks it sends there and each neighbour's barrier cell one unit. -/
def O₀ (d : Dev nD) : CellTallies nD τ sig Unit :=
  ((∑ k : Fin 4, tallyAt (gc (nxt d) 1 k) () (nR d k)) + ∑ k : Fin 4, tallyAt (gc (prv d) 3 k) () (nL d k))
    + tallyAt (barCell (nxt d)) () 1 + tallyAt (barCell (prv d)) () 1

def L (g : GSem nD τ sig) : Finset Unit := if g.1.2 = .tc then {()} else ∅

/-- The level of a transfer semaphore on a device at place `z`: a chunk's landings rise along its route. -/
def dlev (z : ℕ) (q : DmaSem sig) : ℕ :=
  if 3 ≤ q.val then
    (match kindOf q with
      | 1 => 2 * (z + 3 - (chunkOf q).val)
      | 3 => 2 * ((chunkOf q).val + 3 - z) + 1
      | _ => 0)
  else 0
/-- Barrier cells at 1, receive cells above, everything else (staging, send) at 0. -/
def lv (g : GSem nD τ sig) (_ : Unit) : ℕ := match g.2 with | .reg _ => 1 | .dma q => dlev (zof g.1.1) q

theorem L_of_ne (g : GSem nD τ sig) (h : g.1.2 ≠ .tc) : L g = ∅ := if_neg h
theorem L_tc (c : Dev nD) (sm : SemLoc sig) : L ((c : Thread nD τ), sm) = {()} := if_pos rfl

/-- Everything `O` owes lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem above_tally {n : ℕ} (c : Dev nD) (sm : SemLoc sig) (a : ℕ) (h : 0 < a → n < lv ((c : Thread nD τ), sm) ()) :
    Above n (tallyAt ((c : Thread nD τ), sm) () a) := fun g u hp => by
  obtain ⟨rfl, rfl⟩ := Pipeline.tallyAt_pos hp
  refine ⟨by rw [L_tc]; exact Finset.mem_singleton_self _, h ?_⟩
  rw [tallyAt_apply, if_pos ⟨rfl, rfl⟩] at hp; exact hp
theorem above_sum {n : ℕ} {α : Type} (S : Finset α) (D : α → CellTallies nD τ sig Unit) (h : ∀ a ∈ S, Above n (D a)) : Above n (∑ a ∈ S, D a) :=
  fun g u hp => by obtain ⟨a, ha, hp⟩ := Pipeline.sum_pos_exists hp; exact h a ha g u hp

/-- A wait on a cell below everything still owed is allowed. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  Pipeline.mayWait_of_levAts (by rw [L_tc]; exact Finset.mem_singleton_self _) h

theorem O₀_above (c : Dev nD) : Above 0 (O₀ c) := by
  unfold O₀
  refine above_add (above_add (above_add (above_sum _ _ fun k _ => above_tally _ _ _ fun hp => ?_) (above_sum _ _ fun k _ => above_tally _ _ _ fun hp => ?_))
    (above_tally _ _ _ fun _ => ?_)) (above_tally _ _ _ fun _ => ?_)
  · have h : zof c < k.val := by by_contra hn; unfold nR at hp; rw [if_neg hn] at hp; exact Nat.lt_irrefl 0 hp
    have h4 := k.isLt; have h5 := zof_nxt c
    show 0 < dlev (zof (nxt c)) (dsem 1 k)
    unfold dlev; rw [if_pos (three_le_dsem _ _), kindOf_dsem, chunkOf_dsem]
    show 0 < 2 * (zof (nxt c) + 3 - k.val)
    omega
  · show 0 < dlev (zof (prv c)) (dsem 3 k)
    unfold dlev; rw [if_pos (three_le_dsem _ _), kindOf_dsem, chunkOf_dsem]
    show 0 < 2 * (k.val + 3 - zof (prv c)) + 1
    omega
  · exact Nat.one_pos
  · exact Nat.one_pos

/-- The staging waits: at level 0, below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have h0 : lv ((c : Thread nD τ), .dma q) () = 0 := by
    show dlev (zof c) q = 0
    unfold dlev; rw [if_neg (by omega)]
  refine mayWait c _ O ?_
  rw [h0]
  rcases hO with rfl | rfl
  · exact O₀_above c
  · exact above_zero 0

end Cert.KernelIdealProof

end
-- ==== Proof.Steps.lean ====
/- The rules for the kernel's own steps, each stated over the protocol: a wait on a transfer cell, a transfer to a neighbour,
   a chunk of the local product, a chunk added to what was received, the barrier handshake, and the closing of the cells. -/
module

public import proofs.«01_k».proof.Proof.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All seventeen cells of a device: the barrier's, then the sixteen transfer cells' -/

set_option backward.proofsInPublic true in
def csem (j : Fin 17) : SemLoc sig := if j.val = 0 then .reg barS else .dma ⟨2 + j.val, by have h := j.isLt; show _ < 19; omega⟩
abbrev kcell (cj : Dev nD × Fin 17) : GSem nD τ sig := ((cj.1 : Thread nD τ), csem cj.2)
set_option backward.proofsInPublic true in
/-- Where the transfer cell of a kind and a chunk stands among them. -/
def ix (kd k : Fin 4) : Fin 17 := ⟨1 + 4 * kd.val + k.val, by omega⟩

theorem csem_ix (kd k : Fin 4) : csem (ix kd k) = .dma (dsem kd k) := by revert kd k; decide
theorem csem_zero : csem 0 = .reg barS := by decide

/-- Every cell's invariant, at the names `K` the launch allocated them at, and every cell at round 0. -/
def records (K : Dev nD × Fin 17 → ℕ) : sProp 𝕄 :=
  iprop((bigSep Finset.univ fun cj : Dev nD × Fin 17 => cellInv ER (ringRd m ρ) (K cj) (kcell cj))
    ∗ bigSep Finset.univ fun cj : Dev nD × Fin 17 => reached ER (kcell cj) 0)

instance records_persistent (K : Dev nD × Fin 17 → ℕ) : BI.Persistent (records m ρ K) := by unfold records; infer_instance

variable (K : Dev nD × Fin 17 → ℕ)

theorem rec_at (cj : Dev nD × Fin 17) :
    records m ρ K ⊢ iprop(cellInv ER (ringRd m ρ) (K cj) (kcell cj) ∗ reached ER (kcell cj) 0) := by
  unfold records
  exact BI.sep_mono (bigSep_elim (Finset.mem_univ cj)) (bigSep_elim (Finset.mem_univ cj))
theorem rec_dma (c : Dev nD) (kd k : Fin 4) :
    records m ρ K ⊢ iprop(cellInv ER (ringRd m ρ) (K (c, ix kd k)) (gc c kd k) ∗ reached ER (gc c kd k) 0) := by
  have h := rec_at m ρ K (c, ix kd k)
  unfold kcell at h; rw [csem_ix] at h; exact h
theorem rec_bar (c : Dev nD) :
    records m ρ K ⊢ iprop(cellInv ER (ringRd m ρ) (K (c, 0)) (barCell c) ∗ reached ER (barCell c) 0) := by
  have h := rec_at m ρ K (c, 0)
  unfold kcell at h; rw [csem_zero] at h; exact h

/-- Device `c` owes `O`, whatever it has waited on. -/
def owe (c : Dev nD) (O : CellTallies nD τ sig Unit) : sProp 𝕄 := iprop(∃ W, owes (c : Thread nD τ) O W)

/-- Device `c`'s position on its transfer cell of kind `kd` and chunk `k`: round `R`. -/
abbrev pos (c : Dev nD) (kd k : Fin 4) (R : ℕ) : sProp 𝕄 := atPos ER (gc c kd k) R ∅ 0
abbrev tok (c : Dev nD) (kd k : Fin 4) : sProp 𝕄 := dutyTok ER (gc c kd k) 0 false

/-- The wait for the one transfer of an active cell of device `c`: what the transfer hands over. -/
theorem wp_wait_cell (c : Dev nD) (kd k : Fin 4) (hact : act (zof c) kd k) {q : DmaSem sig} (hq : q = dsem kd k)
    {s : Shape} {e : EltTy} {src dst : Memref sig .tc .vmem s e} {h1 : src.view.WordExact} {h2 : dst.view.WordExact}
    {α : Type} {Q : α → sProp 𝕄} {kt : PUnit → Prog (TpuEff nD τ sig (Elt F) Λ₀ .tc) α}
    (hN : dst.view.dmaCredit = N) (a : ℕ) (ha : a = N) (O : CellTallies nD τ sig Unit) (hO : Above (dlev (zof c) (dsem kd k)) O)
    (R : sProp 𝕄) (hR : dmaPay m ρ c kd k = R) :
    iprop(records m ρ K ∗ levAts L lv ∗ cred (tallyAt (gc c kd k) () a) ∗ owe c O ∗ pos c kd k 0)
      ⊢ iprop(((owe c O ∗ pos c kd k 1 ∗ R)
              -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst h1 h2) kt) Q) := by
  subst hq ha hR
  unfold owe
  iintro ⟨#HR, #Hlev, Hc, ⟨%W, HO⟩, Hat⟩ Hk
  ihave Hr := (rec_dma m ρ K c kd k) $$ HR
  icases Hr with ⟨#HI, #Hrc⟩
  iapply (Rounds.wp_wait_rest_token 𝒱₀ ER (ringRd m ρ) (c : Thread nD τ) none (κ := K (c, ix kd k))
      (wpE_waitDma2_eq 𝒱₀ (c : Thread nD τ) none Set.univ) (Set.mem_univ _) () (O := O) (W := W) (R := 0) (m := 0) (T := ∅)
      (by rw [Nat.zero_add, expect_dma m ρ c kd k hact]; exact hN)) $$ [Hc HO Hat]
  · isplitr; · iexact HI
    isplitl [Hc]; · rw [hN]; iexact Hc
    isplitl [HO]; · iexact HO
    isplitr; · iapply (mayWait c (.dma (dsem kd k)) O hO); iexact Hlev
    iexact Hat
  iintro ⟨HO, Hat, -, Hpay⟩
  iapply Hk
  isplitl [HO]; · iexists _; iexact HO
  isplitl [Hat]; · iexact Hat
  rw [← rest_dma m ρ c kd k hact]; iexact Hpay

/-- A transfer from device `c` to a neighbour `n'`, of the part `src` over `n'`'s slot `dst`. -/
theorem wp_xfer (c n n' : Dev nD) (hn : n = n') (ks kr k : Fin 4) {sS sem : DmaSem sig} (hs₁ : sS = dsem ks k) (hs₂ : sem = dsem kr k)
    {s : Shape} {e : EltTy} {src dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma sem) (.remote (Dev.tc n : Thread nD τ) dst (.dma sS) hsc)}
    {α : Type} {Q : α → sProp 𝕄} {kt : PUnit → Prog (TpuEff nD τ sig (Elt F) Λ₀ .tc) α}
    (X : s.Idx → Elt F e) (hN : dst.view.dmaCredit = N)
    (ha₁ : act (zof c) ks k) (ha₂ : act (zof n') kr k)
    (hp₁ : own c src X ⊢ dmaPay m ρ c ks k) (hp₂ : own n' dst X ⊢ dmaPay m ρ n' kr k)
    (O : CellTallies nD τ sig Unit) :
    iprop(records m ρ K ∗ own c src X ∗ free (F := F) n' dst ∗ owe c (O + tallyAt (gc n' kr k) () N) ∗ tok c ks k ∗ tok n' kr k)
      ⊢ iprop(((cred (tallyAt (gc c ks k) () N) ∗ owe c O)
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hsem) kt) Q) := by
  subst hs₁ hs₂
  unfold owe
  iintro ⟨#HR, Hs, Hd, ⟨%W, HO⟩, Ht1, Ht2⟩ Hk
  ihave Hr1 := (rec_dma m ρ K c ks k) $$ HR
  icases Hr1 with ⟨#HI1, #Hr1⟩
  ihave Hr2 := (rec_dma m ρ K n' kr k) $$ HR
  icases Hr2 with ⟨#HI2, #Hr2⟩
  iapply (wp_send_own (ringRd m ρ) c n n' hn (κ₁ := K (c, ix ks k)) (κ₂ := K (n', ix kr k)) X W N hN
    (by rw [duties_act m ρ c ks k ha₁]; exact Finset.mem_singleton_self _)
    (by rw [duties_act m ρ n' kr k ha₂]; exact Finset.mem_singleton_self _)
    (amount_dma m ρ c ks k false) (amount_dma m ρ n' kr k false)
    (by rw [payload_dma]; exact hp₁) (by rw [payload_dma]; exact hp₂) _ O rfl) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-! ## The kernel's own steps -/

abbrev yrect : Rect S512x2048 := Rect.unit (s := S512x2048) ![0, 0] S512x2048.size inb_S512x2048_S512x2048_0_0
abbrev orect : Rect S128x2048 := Rect.unit (s := S128x2048) ![0, 0] S128x2048.size inb_S128x2048_S128x2048_0_0

/-- The operands' staging buffers, holding device `c`'s blocks. -/
def xPts (c : Dev nD) : sProp 𝕄 := ((c : Thread nD τ).loc cc0_stg0_0) ↦{fullShare} xstg m ρ c
def yPts (c : Dev nD) : sProp 𝕄 := ((c : Thread nD τ).loc cc0_stg1_0) ↦{fullShare} ystg m ρ c

theorem hz2 : (![0, 0] : Fin 2 → Nat) = fun _ => 0 := funext fun a => by fin_cases a <;> rfl

/-- One chunk of the local product computed and stored. -/
theorem wp_chunk (c : Dev nD) (k : Fin 4) (pay : Vec F S512x128 .f32 → Vec F S512x2048 .f32 → FVec F S128x2048 .f32) (hpay : pay = k0_pay3)
    {hl₁ : xM.view.LoadsAt (xrect k).toLoadRect} {hl₂ : yM.view.LoadsAt yrect.toLoadRect} {hl₃ : pM.view.LoadsAt (prect k).toLoadRect}
    {hx : (pM.access (prect k)).Stores Finset.univ}
    {hm : (Finset.univ : Finset (prect k).shape.Idx) = Finset.univ ∨ ∀ a, (prect k).stride a = 1}
    {α : Type} {Q : α → sProp 𝕄} {kt : PUnit → Prog (TpuEff nD τ sig (Elt F) Λ₀ .tc) α} :
    iprop(xPts m ρ c ∗ yPts m ρ c ∗ free (F := F) c (pslice k))
      ⊢ iprop(((xPts m ρ c ∗ yPts m ρ c ∗ own c (pslice k) (P m ρ c k))
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.load xM (xrect k).toLoadRect hl₁) fun v => .op (.load yM yrect.toLoadRect hl₂) fun v' =>
                .op (.load pM (prect k).toLoadRect hl₃) fun _ => .op (.store pM (prect k) (pay v v') Finset.univ hx hm) kt) Q) := by
  subst hpay
  unfold xPts yPts
  iintro ⟨Hx, Hy, ⟨%X, Hp⟩⟩ Hk
  iapply (wp_load 𝒱₀ (c : Thread nD τ) none Set.univ (m := xM) (Finset.subset_univ _)) $$ Hx; iintro Hx
  iapply (wp_load 𝒱₀ (c : Thread nD τ) none Set.univ (m := yM) (Finset.subset_univ _)) $$ Hy; iintro Hy
  iapply (wp_load_slice c (m := pM) (r := prect k) (hr := fun _ => rfl) X) $$ Hp; iintro Hp
  iapply (wp_store_slice c (m := pM) (r := prect k) (hr := fun _ => rfl)
    (w := k0_pay3 (xM.view.readAt (Elt F) (xrect k).toLoadRect (xstg m ρ c)) (yM.view.readAt (Elt F) yrect.toLoadRect (ystg m ρ c)))) $$ [Hp]
  · iapply (own_free c (pM.slice (prect k) (fun _ => rfl)) X); iexact Hp
  iintro Hp
  iapply Hk
  isplitl [Hx]; · iexact Hx
  isplitl [Hy]; · iexact Hy
  rw [show yM.view.readAt (Elt F) yrect.toLoadRect (ystg m ρ c) = ystg m ρ c from Memref.readAt_unit_zero (Elt F) cc0_stg1_0 hz2 _ _]
  iexact Hp

/-- A device's chunk of its own product added to what its slot received: the slot then holds the sum. -/
theorem wp_addslot (c : Dev nD) (k : Fin 4) (M : Memref sig .tc .vmem S4x128x2048 .f32)
    (pay : Vec F S1x128x2048 .f32 → Vec F S128x2048 .f32 → FVec F S1x128x2048 .f32) (hpay : pay = k0_pay9)
    (X Y : Vec F S128x2048 .f32)
    {hl₁ : M.view.LoadsAt (srect k).toLoadRect} {hl₂ : pM.view.LoadsAt (prect k).toLoadRect} {hl₃ : M.view.LoadsAt (srect k).toLoadRect}
    {hx : (M.access (srect k)).Stores Finset.univ}
    {hm : (Finset.univ : Finset (srect k).shape.Idx) = Finset.univ ∨ ∀ a, (srect k).stride a = 1}
    {α : Type} {Q : α → sProp 𝕄} {kt : PUnit → Prog (TpuEff nD τ sig (Elt F) Λ₀ .tc) α} :
    iprop(own c ((M.slice (srect k) (fun _ => rfl)).squeeze S128x2048 squeezes_S1x128x2048_S128x2048) X ∗ own c (pslice k) Y)
      ⊢ iprop(((own c ((M.slice (srect k) (fun _ => rfl)).squeeze S128x2048 squeezes_S1x128x2048_S128x2048) (addf X Y) ∗ own c (pslice k) Y)
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.load M (srect k).toLoadRect hl₁) fun v => .op (.load pM (prect k).toLoadRect hl₂) fun v' =>
                .op (.load M (srect k).toLoadRect hl₃) fun _ => .op (.store M (srect k) (pay v v') Finset.univ hx hm) kt) Q) := by
  subst hpay
  iintro ⟨Hr, Hp⟩ Hk
  iapply (wp_load_squeeze c (m := M) (r := srect k) (hr := fun _ => rfl) (hs := squeezes_S1x128x2048_S128x2048)
    shapeCasts_S1x128x2048_S128x2048 X) $$ Hr
  iintro %v %hv Hr
  iapply (wp_load_slice c (m := pM) (r := prect k) (hr := fun _ => rfl) Y) $$ Hp; iintro Hp
  iapply (wp_load_squeeze c (m := M) (r := srect k) (hr := fun _ => rfl) (hs := squeezes_S1x128x2048_S128x2048)
    shapeCasts_S1x128x2048_S128x2048 X) $$ Hr
  iintro %v' %hv' Hr
  ihave Hf := (own_free c _ X) $$ Hr
  iapply (wp_store_squeeze c (m := M) (r := srect k) (hr := fun _ => rfl) (hs := squeezes_S1x128x2048_S128x2048)
    shapeCasts_S1x128x2048_S128x2048) $$ Hf
  iintro Hr
  iapply Hk
  isplitl [Hr]
  · rw [show shapeCast S128x2048 (k0_pay9 v Y) shapeCasts_S1x128x2048_S128x2048 = addf X Y from by
      unfold k0_pay9; rw [shapeCast_shapeCast, hv]]
    iexact Hr
  iexact Hp

/-- The two barrier signals and the barrier wait. -/
theorem wp_handshake (c : Dev nD) (O : CellTallies nD τ sig Unit) (hO : Above 1 O) {n₁ n₂ : Dev nD} (hn₁ : n₁ = prv c) (hn₂ : n₂ = nxt c)
    {α : Type} {Q : α → sProp 𝕄} {kt : PUnit → Prog (TpuEff nD τ sig (Elt F) Λ₀ .tc) α} :
    iprop(records m ρ K ∗ levAts L lv ∗ cred (tallyAt (barCell c) () 2) ∗ owe c (O + tallyAt (barCell (nxt c)) () 1 + tallyAt (barCell (prv c)) () 1)
        ∗ atPos ER (barCell c) 0 ∅ 0 ∗ dutyTok ER (barCell (prv c)) 0 true ∗ dutyTok ER (barCell (nxt c)) 0 false
        ∗ barPayR (prv c) ∗ barPayL (nxt c))
      ⊢ iprop(((owe c O ∗ atPos ER (barCell c) 1 ∅ 0 ∗ barPayL c ∗ barPayR c)
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (n₁, .tc) barS (1#32).toInt) fun _ => .op (.semSignal (n₂, .tc) barS (1#32).toInt) fun _ =>
                .op (.semWait barS (2#32).toInt) kt) Q) := by
  subst hn₁ hn₂
  unfold owe
  iintro ⟨#HR, #Hlev, HcB, ⟨%W, HO⟩, HatB, HtP, HtN, HpP, HpN⟩ Hk
  ihave Hr := (rec_bar m ρ K c) $$ HR
  icases Hr with ⟨#HI, #Hrc⟩
  ihave HrP := (rec_bar m ρ K (prv c)) $$ HR
  icases HrP with ⟨#HIP, #HrP⟩
  ihave HrN := (rec_bar m ρ K (nxt c)) $$ HR
  icases HrN with ⟨#HIN, #HrN⟩
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) true).trans (by decide)) ()
      (O + tallyAt (barCell (nxt c)) () 1) rfl) $$ [HO HtP HpP]
  · isplitr; · iexact HIP
    isplitl [HO]; · iexact HO
    isplitl [HtP]; · iexact HtP
    isplitl [HpP]; · rw [payload_bar_true]; iexact HpP
    iexact HrP
  iintro HO
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) false).trans (by decide)) () O rfl) $$ [HO HtN HpN]
  · isplitr; · iexact HIN
    isplitl [HO]; · iexact HO
    isplitl [HtN]; · iexact HtN
    isplitl [HpN]; · rw [payload_bar_false]; iexact HpN
    iexact HrN
  iintro HO
  iapply (Rounds.wp_wait_rest_token 𝒱₀ ER (ringRd m ρ) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [HcB HO HatB]
  · isplitr; · iexact HI
    isplitl [HcB]; · iexact HcB
    isplitl [HO]; · iexact HO
    isplitr; · iapply (mayWait c (.reg barS) O hO); iexact Hlev
    iexact HatB
  iintro ⟨HO, HatB, -, Hpay⟩
  ihave Hp := (Entails.of_eq (rest_bar m ρ c)) $$ Hpay
  icases Hp with ⟨HL, HR'⟩
  iapply Hk
  isplitl [HO]; · iexists _; iexact HO
  isplitl [HatB]; · iexact HatB
  isplitl [HL]; · iexact HL
  iexact HR'

/-! ## Closing the cells -/

/-- An active cell closes from round 1, an idle one from round 0. -/
def endRound (c : Dev nD) (kd k : Fin 4) : ℕ := if act (zof c) kd k then 1 else 0

theorem close_dma (c : Dev nD) (kd k : Fin 4) :
    iprop(records m ρ K ∗ pos c kd k (endRound c kd k)) ⊢ |={Set.univ}=> semVal (gc c kd k) 0 := by
  iintro ⟨#HR, Hat⟩
  ihave Hr := (rec_dma m ρ K c kd k) $$ HR
  icases Hr with ⟨#HI, -⟩
  unfold endRound
  by_cases h : act (zof c) kd k
  · rw [if_pos h]
    iapply (Rounds.cell_close ER (ringRd m ρ) (Set.mem_univ (K (c, ix kd k))) (fun h => h) (R := 1) (duties_later m ρ (gc c kd k)))
    isplitr; · iexact HI
    iexact Hat
  · rw [if_neg h]
    iapply (Rounds.cell_close ER (ringRd m ρ) (Set.mem_univ (K (c, ix kd k))) (fun h => h) (R := 0) (duties_idle_all m ρ c kd k h))
    isplitr; · iexact HI
    iexact Hat

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_kind (c : Dev nD) (kd : Fin 4) :
    iprop(records m ρ K ∗ bigSep Finset.univ fun k : Fin 4 => pos c kd k (endRound c kd k))
      ⊢ |={Set.univ}=> bigSep Finset.univ fun k : Fin 4 => semVal (gc c kd k) 0 :=
  (bigSep_with_persistent fun k _ => close_dma m ρ K c kd k).trans (bigSep_fupd _ _)

theorem close_bar (c : Dev nD) :
    iprop(records m ρ K ∗ atPos ER (barCell c) 1 ∅ 0) ⊢ |={Set.univ}=> semVal (barCell c) 0 := by
  iintro ⟨#HR, Hat⟩
  ihave Hr := (rec_bar m ρ K c) $$ HR
  icases Hr with ⟨#HI, -⟩
  iapply (Rounds.cell_close ER (ringRd m ρ) (Set.mem_univ (K (c, 0))) (fun h => h) (R := 1) (duties_later m ρ (barCell c)))
  isplitr; · iexact HI
  iexact Hat

/-! ## The result -/

abbrev slotOf (M : Memref sig .tc .vmem S4x128x2048 .f32) (k : Fin 4) : Memref sig .tc .vmem S128x2048 .f32 :=
  (M.slice (srect k) (fun _ => rfl)).squeeze S128x2048 squeezes_S1x128x2048_S128x2048

/-- The result's staging buffer, holding `f`. -/
def oPts (c : Dev nD) (f : Vec F S128x2048 .f32) : sProp 𝕄 := ((c : Thread nD τ).loc cc0_stg2_0) ↦{fullShare} (f : Buf (Elt F) ((c : Thread nD τ).loc cc0_stg2_0))

/-- A chunk of the local product plus one landing slot, stored as the result. -/
theorem wp_out2 (c : Dev nD) (k : Fin 4) (M : Memref sig .tc .vmem S4x128x2048 .f32)
    (pay : Vec F S128x2048 .f32 → Vec F S1x128x2048 .f32 → FVec F S128x2048 .f32) (hpay : pay = k0_pay2)
    (X Y f : Vec F S128x2048 .f32)
    {hl₁ : pM.view.LoadsAt (prect k).toLoadRect} {hl₂ : M.view.LoadsAt (srect k).toLoadRect} {hl₃ : oM.view.LoadsAt orect.toLoadRect}
    {hx : (oM.access orect).Stores Finset.univ}
    {hm : (Finset.univ : Finset orect.shape.Idx) = Finset.univ ∨ ∀ a, orect.stride a = 1}
    {α : Type} {Q : α → sProp 𝕄} {kt : PUnit → Prog (TpuEff nD τ sig (Elt F) Λ₀ .tc) α} :
    iprop(own c (pslice k) Y ∗ own c (slotOf M k) X ∗ oPts c f)
      ⊢ iprop(((own c (pslice k) Y ∗ own c (slotOf M k) X ∗ oPts c (addf Y X))
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.load pM (prect k).toLoadRect hl₁) fun v => .op (.load M (srect k).toLoadRect hl₂) fun v' =>
                .op (.load oM orect.toLoadRect hl₃) fun _ => .op (.store oM orect (pay v v') Finset.univ hx hm) kt) Q) := by
  subst hpay
  unfold oPts
  iintro ⟨Hp, Hr, Ho⟩ Hk
  iapply (wp_load_slice c (m := pM) (r := prect k) (hr := fun _ => rfl) Y) $$ Hp; iintro Hp
  iapply (wp_load_squeeze c (m := M) (r := srect k) (hr := fun _ => rfl) (hs := squeezes_S1x128x2048_S128x2048)
    shapeCasts_S1x128x2048_S128x2048 X) $$ Hr
  iintro %v %hv Hr
  iapply (wp_load 𝒱₀ (c : Thread nD τ) none Set.univ (m := oM) (Finset.subset_univ _)) $$ Ho; iintro Ho
  iapply (wp_store 𝒱₀ (c : Thread nD τ) none Set.univ (m := oM) (r := orect) (Mk := Finset.univ) (Finset.subset_univ _)) $$ Ho; iintro Ho
  iapply Hk
  isplitl [Hp]; · iexact Hp
  isplitl [Hr]; · iexact Hr
  rw [show ((oM : Memref sig .tc .vmem S128x2048 .f32).access orect : View sig .tc _ _ _).write (Elt F) f (k0_pay2 Y v) Finset.univ = addf Y X from
    (Memref.write_access_unit_zero_univ (Elt F) cc0_stg2_0 hz2 _ f _).trans (by unfold k0_pay2; rw [hv])]
  iexact Ho

/-- A chunk of the local product plus two landing slots, stored as the result. -/
theorem wp_out3 (c : Dev nD) (k : Fin 4) (pay : Vec F S128x2048 .f32 → Vec F S1x128x2048 .f32 → Vec F S1x128x2048 .f32 → FVec F S128x2048 .f32) (hpay : pay = k0_pay1)
    (X X' Y f : Vec F S128x2048 .f32)
    {hl₁ : pM.view.LoadsAt (prect k).toLoadRect} {hl₂ : rM.view.LoadsAt (srect k).toLoadRect} {hl₂' : lM.view.LoadsAt (srect k).toLoadRect}
    {hl₃ : oM.view.LoadsAt orect.toLoadRect} {hx : (oM.access orect).Stores Finset.univ}
    {hm : (Finset.univ : Finset orect.shape.Idx) = Finset.univ ∨ ∀ a, orect.stride a = 1}
    {α : Type} {Q : α → sProp 𝕄} {kt : PUnit → Prog (TpuEff nD τ sig (Elt F) Λ₀ .tc) α} :
    iprop(own c (pslice k) Y ∗ own c (rslot k) X ∗ own c (lslot k) X' ∗ oPts c f)
      ⊢ iprop(((own c (pslice k) Y ∗ own c (rslot k) X ∗ own c (lslot k) X' ∗ oPts c (addf (addf Y X) X'))
              -∗ wp frame (wpE (defs₀ (F := F)) 𝒱₀ (c : Thread nD τ) none) Set.univ (kt ⟨⟩) Q)
          -∗ wp frame (wpE (defs₀ (F := F)) 𝒱₀ (c : Thread nD τ) none) Set.univ
              (.op (.load pM (prect k).toLoadRect hl₁) fun v => .op (.load rM (srect k).toLoadRect hl₂) fun v' =>
                .op (.load lM (srect k).toLoadRect hl₂') fun v'' =>
                .op (.load oM orect.toLoadRect hl₃) fun _ => .op (.store oM orect (pay v v' v'') Finset.univ hx hm) kt) Q) := by
  subst hpay
  unfold oPts
  iintro ⟨Hp, Hr, Hl, Ho⟩ Hk
  iapply (wp_load_slice c (m := pM) (r := prect k) (hr := fun _ => rfl) Y) $$ Hp; iintro Hp
  iapply (wp_load_squeeze c (m := rM) (r := srect k) (hr := fun _ => rfl) (hs := squeezes_S1x128x2048_S128x2048)
    shapeCasts_S1x128x2048_S128x2048 X) $$ Hr
  iintro %v %hv Hr
  iapply (wp_load_squeeze c (m := lM) (r := srect k) (hr := fun _ => rfl) (hs := squeezes_S1x128x2048_S128x2048)
    shapeCasts_S1x128x2048_S128x2048 X') $$ Hl
  iintro %v' %hv' Hl
  iapply (wp_load 𝒱₀ (c : Thread nD τ) none Set.univ (m := oM) (Finset.subset_univ _)) $$ Ho; iintro Ho
  iapply (wp_store 𝒱₀ (c : Thread nD τ) none Set.univ (m := oM) (r := orect) (Mk := Finset.univ) (Finset.subset_univ _)) $$ Ho; iintro Ho
  iapply Hk
  isplitl [Hp]; · iexact Hp
  isplitl [Hr]; · iexact Hr
  isplitl [Hl]; · iexact Hl
  rw [show ((oM : Memref sig .tc .vmem S128x2048 .f32).access orect : View sig .tc _ _ _).write (Elt F) f (k0_pay1 Y v v') Finset.univ = addf (addf Y X) X' from
    (Memref.write_access_unit_zero_univ (Elt F) cc0_stg2_0 hz2 _ f _).trans (by unfold k0_pay1; rw [hv, hv'])]
  iexact Ho

/-! ## Levels of the transfer cells, the four transfers' kinds, the handshake's payloads -/

theorem dlev_1 (z : ℕ) (k : Fin 4) : dlev z (dsem 1 k) = 2 * (z + 3 - k.val) := by
  unfold dlev; rw [if_pos (three_le_dsem 1 k), kindOf_dsem, chunkOf_dsem]; rfl
theorem dlev_3 (z : ℕ) (k : Fin 4) : dlev z (dsem 3 k) = 2 * (k.val + 3 - z) + 1 := by
  unfold dlev; rw [if_pos (three_le_dsem 3 k), kindOf_dsem, chunkOf_dsem]; rfl
theorem dlev_0 (z : ℕ) (k : Fin 4) : dlev z (dsem 0 k) = 0 := by
  unfold dlev; rw [if_pos (three_le_dsem 0 k), kindOf_dsem]; rfl
theorem dlev_2 (z : ℕ) (k : Fin 4) : dlev z (dsem 2 k) = 0 := by
  unfold dlev; rw [if_pos (three_le_dsem 2 k), kindOf_dsem]; rfl
theorem above_gc {n : ℕ} (c : Dev nD) (kd k : Fin 4) (a : ℕ) (h : n < dlev (zof c) (dsem kd k)) :
    Above n (tallyAt (gc c kd k) () a : CellTallies nD τ sig Unit) := above_tally c _ a fun _ => h

/-- Every part transferred has the same credit. -/
theorem credit_r (k : Fin 4) : (rslot k).view.dmaCredit = N := by unfold N View.dmaCredit; rfl
theorem credit_l (k : Fin 4) : (lslot k).view.dmaCredit = N := by unfold N View.dmaCredit; rfl
theorem credit_p (k : Fin 4) : (pslice k).view.dmaCredit = N := by unfold N View.dmaCredit; rfl

/-- The first sender's transfer of chunk `k` rightward: its own product. -/
theorem wp_sendR_first (c n : Dev nD) (hn : n = nxt c) (k : Fin 4) (hz : zof c = 0) (hk : 1 ≤ k.val) {sS sem : DmaSem sig} (hs₁ : sS = dsem 0 k) (hs₂ : sem = dsem 1 k)
    {hsc : (rslot k : Memref sig (Dev.tc n : Thread nD τ).2.kind .vmem S128x2048 .f32).view.ref.isScScratch = false}
    {hsrc : (pslice k).view.WordExact} {hdst : (rslot k).view.WordExact}
    {hsem : DmaTarget.Typed .vmem (.dma sem) (.remote (Dev.tc n : Thread nD τ) (rslot k) (.dma sS) hsc)}
    {α : Type} {Q : α → sProp 𝕄} {kt : PUnit → Prog (TpuEff nD τ sig (Elt F) Λ₀ .tc) α} (O : CellTallies nD τ sig Unit) :
    iprop(records m ρ K ∗ own c (pslice k) (P m ρ c k) ∗ free (F := F) (nxt c) (rslot k) ∗ owe c (O + tallyAt (gc (nxt c) 1 k) () N) ∗ tok c 0 k ∗ tok (nxt c) 1 k)
      ⊢ iprop(((cred (tallyAt (gc c 0 k) () N) ∗ owe c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pslice k) (.remote (Dev.tc n : Thread nD τ) (rslot k) (.dma sS) hsc) (.dma sem) hsrc hdst hsem) kt) Q) :=
  wp_xfer m ρ K c n (nxt c) hn 0 1 k hs₁ hs₂ (P m ρ c k) (credit_r k) (show zof c < k.val by omega) (show 1 ≤ zof (nxt c) ∧ zof (nxt c) ≤ k.val by rw [zof_nxt, hz]; omega)
    (Entails.of_eq (by unfold dmaPay; exact ((if_pos hz).trans (by rw [Sr_first m ρ c k hz])).symm))
    (Entails.of_eq (by unfold dmaPay; rw [prv_nxt, Sr_first m ρ c k hz])) O

/-- A later sender's: its slot, holding the running sum. -/
theorem wp_sendR_next (c n : Dev nD) (hn : n = nxt c) (k : Fin 4) (hz : zof c = 1 ∨ zof c = 2) (hk : zof c < k.val) {sS sem : DmaSem sig} (hs₁ : sS = dsem 0 k) (hs₂ : sem = dsem 1 k)
    {hsc : (rslot k : Memref sig (Dev.tc n : Thread nD τ).2.kind .vmem S128x2048 .f32).view.ref.isScScratch = false}
    {hsrc : (rslot k).view.WordExact} {hdst : (rslot k).view.WordExact}
    {hsem : DmaTarget.Typed .vmem (.dma sem) (.remote (Dev.tc n : Thread nD τ) (rslot k) (.dma sS) hsc)}
    {α : Type} {Q : α → sProp 𝕄} {kt : PUnit → Prog (TpuEff nD τ sig (Elt F) Λ₀ .tc) α} (O : CellTallies nD τ sig Unit) :
    iprop(records m ρ K ∗ own c (rslot k) (addf (Sr m ρ (prv c) k) (P m ρ c k)) ∗ free (F := F) (nxt c) (rslot k) ∗ owe c (O + tallyAt (gc (nxt c) 1 k) () N) ∗ tok c 0 k ∗ tok (nxt c) 1 k)
      ⊢ iprop(((cred (tallyAt (gc c 0 k) () N) ∗ owe c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rslot k) (.remote (Dev.tc n : Thread nD τ) (rslot k) (.dma sS) hsc) (.dma sem) hsrc hdst hsem) kt) Q) := by
  rw [Sr_step m ρ c k hz]
  exact wp_xfer m ρ K c n (nxt c) hn 0 1 k hs₁ hs₂ (Sr m ρ c k) (credit_r k) hk (show 1 ≤ zof (nxt c) ∧ zof (nxt c) ≤ k.val by rw [zof_nxt]; omega)
    (Entails.of_eq (by unfold dmaPay; exact (if_neg (show ¬ zof c = 0 by omega)).symm))
    (Entails.of_eq (by unfold dmaPay; rw [prv_nxt])) O

/-- The same two leftward: the last device sends its own product, -/
theorem wp_sendL_first (c n : Dev nD) (hn : n = prv c) (k : Fin 4) (hz : zof c = 3) (hk : k.val ≤ 2) {sS sem : DmaSem sig} (hs₁ : sS = dsem 2 k) (hs₂ : sem = dsem 3 k)
    {hsc : (lslot k : Memref sig (Dev.tc n : Thread nD τ).2.kind .vmem S128x2048 .f32).view.ref.isScScratch = false}
    {hsrc : (pslice k).view.WordExact} {hdst : (lslot k).view.WordExact}
    {hsem : DmaTarget.Typed .vmem (.dma sem) (.remote (Dev.tc n : Thread nD τ) (lslot k) (.dma sS) hsc)}
    {α : Type} {Q : α → sProp 𝕄} {kt : PUnit → Prog (TpuEff nD τ sig (Elt F) Λ₀ .tc) α} (O : CellTallies nD τ sig Unit) :
    iprop(records m ρ K ∗ own c (pslice k) (P m ρ c k) ∗ free (F := F) (prv c) (lslot k) ∗ owe c (O + tallyAt (gc (prv c) 3 k) () N) ∗ tok c 2 k ∗ tok (prv c) 3 k)
      ⊢ iprop(((cred (tallyAt (gc c 2 k) () N) ∗ owe c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pslice k) (.remote (Dev.tc n : Thread nD τ) (lslot k) (.dma sS) hsc) (.dma sem) hsrc hdst hsem) kt) Q) :=
  wp_xfer m ρ K c n (prv c) hn 2 3 k hs₁ hs₂ (P m ρ c k) (credit_l k) (show k.val < zof c by omega) (show k.val ≤ zof (prv c) ∧ zof (prv c) ≤ 2 by rw [zof_prv, hz]; omega)
    (Entails.of_eq (by unfold dmaPay; exact ((if_pos hz).trans (by rw [Sl_first m ρ c k hz])).symm))
    (Entails.of_eq (by unfold dmaPay; rw [nxt_prv, Sl_first m ρ c k hz])) O

/-- a middle one its slot, holding the running sum. -/
theorem wp_sendL_next (c n : Dev nD) (hn : n = prv c) (k : Fin 4) (hz : zof c = 1 ∨ zof c = 2) (hk : k.val < zof c) {sS sem : DmaSem sig} (hs₁ : sS = dsem 2 k) (hs₂ : sem = dsem 3 k)
    {hsc : (lslot k : Memref sig (Dev.tc n : Thread nD τ).2.kind .vmem S128x2048 .f32).view.ref.isScScratch = false}
    {hsrc : (lslot k).view.WordExact} {hdst : (lslot k).view.WordExact}
    {hsem : DmaTarget.Typed .vmem (.dma sem) (.remote (Dev.tc n : Thread nD τ) (lslot k) (.dma sS) hsc)}
    {α : Type} {Q : α → sProp 𝕄} {kt : PUnit → Prog (TpuEff nD τ sig (Elt F) Λ₀ .tc) α} (O : CellTallies nD τ sig Unit) :
    iprop(records m ρ K ∗ own c (lslot k) (addf (Sl m ρ (nxt c) k) (P m ρ c k)) ∗ free (F := F) (prv c) (lslot k) ∗ owe c (O + tallyAt (gc (prv c) 3 k) () N) ∗ tok c 2 k ∗ tok (prv c) 3 k)
      ⊢ iprop(((cred (tallyAt (gc c 2 k) () N) ∗ owe c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (lslot k) (.remote (Dev.tc n : Thread nD τ) (lslot k) (.dma sS) hsc) (.dma sem) hsrc hdst hsem) kt) Q) := by
  rw [Sl_step m ρ c k hz]
  exact wp_xfer m ρ K c n (prv c) hn 2 3 k hs₁ hs₂ (Sl m ρ c k) (credit_l k) hk (show k.val ≤ zof (prv c) ∧ zof (prv c) ≤ 2 by rw [zof_prv]; omega)
    (Entails.of_eq (by unfold dmaPay; exact (if_neg (show ¬ zof c = 3 by omega)).symm))
    (Entails.of_eq (by unfold dmaPay; rw [nxt_prv])) O

abbrev quad (Φ : Fin 4 → sProp 𝕄) : sProp 𝕄 := iprop(Φ 0 ∗ Φ 1 ∗ Φ 2 ∗ Φ 3)
theorem bigSep_four (Φ : Fin 4 → sProp 𝕄) : bigSep Finset.univ Φ = quad Φ := by
  rw [bigSep_univ_eq_bigSepL [0, 1, 2, 3] (by decide) (by decide), bigSepL_cons_cons, bigSepL_cons_cons, bigSepL_cons_cons, bigSepL_singleton]
  rfl

theorem barPayR_quad (c : Dev nD) : barPayR (F := F) c = quad fun k => if zof c < k.val then free (F := F) (nxt c) (rslot k) else iprop(emp) := bigSep_four _
theorem barPayL_quad (c : Dev nD) : barPayL (F := F) c = quad fun k => if k.val < zof c then free (F := F) (prv c) (lslot k) else iprop(emp) := bigSep_four _

/-- The kernel's later tests of its place, against the constants. -/
theorem pick (c : Dev nD) :
    ((Scalar.cmpi .ne (Scalar.extui (Scalar.cmpi .eq (BitVec.ofNat 32 (zof c)) 0#32) : BitVec 32) 0#32 = 1#1) = (zof c = 0))
    ∧ ((Scalar.cmpi .ne (Scalar.extui (Scalar.cmpi .eq (BitVec.ofNat 32 (zof c)) 1#32) : BitVec 32) 0#32 = 1#1) = (zof c = 1))
    ∧ ((Scalar.cmpi .ne (Scalar.extui (Scalar.cmpi .eq (BitVec.ofNat 32 (zof c)) 2#32) : BitVec 32) 0#32 = 1#1) = (zof c = 2))
    ∧ ((Scalar.cmpi .ne (Scalar.extui (Scalar.cmpi .eq (BitVec.ofNat 32 (zof c)) 3#32) : BitVec 32) 0#32 = 1#1) = (zof c = 3)) := by
  simp only [eq_iff_iff]; revert c; decide +kernel

end Cert.KernelIdealProof

end
-- ==== Proof.Body.lean ====
/- The kernel's body on one device, symbolically executed place by place. -/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-- The kernel's body on its memrefs and semaphores. -/
abbrev prog : Prog (TpuEff nD τ sig (Elt F) Λ₀ .tc) PUnit :=
  cc0_body (F := F) xM (Memref.isWhole_whole _) yM (Memref.isWhole_whole _) oM (Memref.isWhole_whole _)
    pM (Memref.isWhole_whole _) rM (Memref.isWhole_whole _) lM (Memref.isWhole_whole _) cc0_scratch3 cc0_scratch4 cc0_scratch5 cc0_scratch6

/-- What device `c`'s body starts from. -/
def Pre (c : Dev nD) : sProp 𝕄 :=
  iprop(records m ρ K ∗ levAts L lv
    ∗ cred (tallyAt (barCell c) () 2) ∗ (quad fun k => cred (tallyAt (gc c 1 k) () (nR (prv c) k))) ∗ (quad fun k => cred (tallyAt (gc c 3 k) () (nL (nxt c) k)))
    ∗ atPos ER (barCell c) 0 ∅ 0 ∗ (quad fun k => pos c 0 k 0) ∗ (quad fun k => pos c 1 k 0) ∗ (quad fun k => pos c 2 k 0) ∗ (quad fun k => pos c 3 k 0)
    ∗ dutyTok ER (barCell (prv c)) 0 true ∗ dutyTok ER (barCell (nxt c)) 0 false
    ∗ (quad fun k => tok c 0 k) ∗ (quad fun k => tok (nxt c) 1 k) ∗ (quad fun k => tok c 2 k) ∗ (quad fun k => tok (prv c) 3 k)
    ∗ owe c (O₀ c) ∗ xPts m ρ c ∗ yPts m ρ c ∗ (∃ f, oPts c f)
    ∗ (quad fun k => free (F := F) c (pslice k)) ∗ (quad fun k => free (F := F) c (rslot k)) ∗ (quad fun k => free (F := F) c (lslot k)))

/-- What it ends with: nothing owed, the operands as they were, the result, every slot back, every cell past its round. -/
def Post (c : Dev nD) : sProp 𝕄 :=
  iprop(atPos ER (barCell c) 1 ∅ 0 ∗ (quad fun k => pos c 0 k (endRound c 0 k)) ∗ (quad fun k => pos c 1 k (endRound c 1 k))
    ∗ (quad fun k => pos c 2 k (endRound c 2 k)) ∗ (quad fun k => pos c 3 k (endRound c 3 k))
    ∗ owe c 0 ∗ xPts m ρ c ∗ yPts m ρ c ∗ oPts c (outAt m ρ c)
    ∗ (quad fun k => free (F := F) c (pslice k)) ∗ (quad fun k => free (F := F) c (rslot k)) ∗ (quad fun k => free (F := F) c (lslot k)))

theorem drop_l (A : sProp 𝕄) : iprop(emp ∗ A) = A := equiv_iff.mp BI.emp_sep
theorem drop_r (A : sProp 𝕄) : iprop(A ∗ emp) = A := equiv_iff.mp BI.sep_emp

/-- What each place owes its neighbours' receive cells, the next to be paid last. -/
abbrev rest0 (c : Dev nD) : CellTallies nD τ sig Unit := 0 + tallyAt (gc (nxt c) 1 1) () N + tallyAt (gc (nxt c) 1 2) () N + tallyAt (gc (nxt c) 1 3) () N
abbrev rest1 (c : Dev nD) : CellTallies nD τ sig Unit := 0 + tallyAt (gc (prv c) 3 0) () N + tallyAt (gc (nxt c) 1 2) () N + tallyAt (gc (nxt c) 1 3) () N
abbrev rest2 (c : Dev nD) : CellTallies nD τ sig Unit := 0 + tallyAt (gc (prv c) 3 1) () N + tallyAt (gc (nxt c) 1 3) () N + tallyAt (gc (prv c) 3 0) () N
abbrev rest3 (c : Dev nD) : CellTallies nD τ sig Unit := 0 + tallyAt (gc (prv c) 3 2) () N + tallyAt (gc (prv c) 3 1) () N + tallyAt (gc (prv c) 3 0) () N

theorem O₀_z0 (c : Dev nD) (hz : zof c = 0) : O₀ c = rest0 c + tallyAt (barCell (nxt c)) () 1 + tallyAt (barCell (prv c)) () 1 := by
  simp [O₀, rest0, nR, nL, hz, Fin.sum_univ_four, tallyAt_zero]
theorem O₀_z1 (c : Dev nD) (hz : zof c = 1) : O₀ c = rest1 c + tallyAt (barCell (nxt c)) () 1 + tallyAt (barCell (prv c)) () 1 := by
  simp [O₀, rest1, nR, nL, hz, Fin.sum_univ_four, tallyAt_zero]; ac_rfl
theorem O₀_z2 (c : Dev nD) (hz : zof c = 2) : O₀ c = rest2 c + tallyAt (barCell (nxt c)) () 1 + tallyAt (barCell (prv c)) () 1 := by
  simp [O₀, rest2, nR, nL, hz, Fin.sum_univ_four, tallyAt_zero]; ac_rfl
theorem O₀_z3 (c : Dev nD) (hz : zof c = 3) : O₀ c = rest3 c + tallyAt (barCell (nxt c)) () 1 + tallyAt (barCell (prv c)) () 1 := by
  simp [O₀, rest3, nR, nL, hz, Fin.sum_univ_four, tallyAt_zero]; ac_rfl

theorem act_0 (z : ℕ) (k : Fin 4) : act z 0 k = (z < k.val) := rfl
theorem act_1 (z : ℕ) (k : Fin 4) : act z 1 k = (1 ≤ z ∧ z ≤ k.val) := rfl
theorem act_2 (z : ℕ) (k : Fin 4) : act z 2 k = (k.val < z) := rfl
theorem act_3 (z : ℕ) (k : Fin 4) : act z 3 k = (k.val ≤ z ∧ z ≤ 2) := rfl

theorem pay_1 (c : Dev nD) (k : Fin 4) : dmaPay m ρ c 1 k = own c (rslot k) (Sr m ρ (prv c) k) := rfl
theorem pay_3 (c : Dev nD) (k : Fin 4) : dmaPay m ρ c 3 k = own c (lslot k) (Sl m ρ (nxt c) k) := rfl
theorem nR_eq (c : Dev nD) (k : Fin 4) (h : act (zof c) 1 k) : nR (prv c) k = N := by
  have hc := zof_prv c; rw [act_1] at h; unfold nR; rw [if_pos (by omega)]
theorem nL_eq (c : Dev nD) (k : Fin 4) (h : act (zof c) 3 k) : nL (nxt c) k = N := by
  have hc := zof_nxt c; rw [act_3] at h; unfold nL; rw [if_pos (by omega)]

/-- The body at the first place. -/
theorem body_z0 (c : Dev nD) (hz : zof c = 0) (Kt : PUnit → sProp 𝕄) :
    iprop(Pre m ρ K c ∗ (Post m ρ c -∗ Kt ⟨⟩)) ⊢ wp frame (wpE (defs₀ (F := F)) 𝒱₀ (c : Thread nD τ) none) Set.univ (prog (F := F)) Kt := by
  have hPR : barPayR (F := F) (prv c) = iprop(emp) := by rw [barPayR_quad, nxt_prv]; simp [quad, zof_prv, hz, drop_r, drop_l]
  have hPL : barPayL (F := F) (nxt c) = iprop(free (F := F) c (lslot 0)) := by rw [barPayL_quad, prv_nxt]; simp [quad, zof_nxt, hz, drop_r, drop_l]
  have hGR : barPayR (F := F) c = iprop(free (F := F) (nxt c) (rslot 1) ∗ free (F := F) (nxt c) (rslot 2) ∗ free (F := F) (nxt c) (rslot 3)) := by rw [barPayR_quad]; simp [quad, hz, drop_r, drop_l]
  have hGL : barPayL (F := F) c = iprop(emp) := by rw [barPayL_quad]; simp [quad, hz, drop_r, drop_l]
  have e0 : (quad fun k => pos (F := F) c 0 k (endRound c 0 k)) = iprop(pos c 0 0 0 ∗ pos c 0 1 1 ∗ pos c 0 2 1 ∗ pos c 0 3 1) := by simp [quad, endRound, act_0, hz]
  have e1 : (quad fun k => pos (F := F) c 1 k (endRound c 1 k)) = iprop(pos c 1 0 0 ∗ pos c 1 1 0 ∗ pos c 1 2 0 ∗ pos c 1 3 0) := by simp [quad, endRound, act_1, hz]
  have e2 : (quad fun k => pos (F := F) c 2 k (endRound c 2 k)) = iprop(pos c 2 0 0 ∗ pos c 2 1 0 ∗ pos c 2 2 0 ∗ pos c 2 3 0) := by simp [quad, endRound, act_2, hz]
  have e3 : (quad fun k => pos (F := F) c 3 k (endRound c 3 k)) = iprop(pos c 3 0 1 ∗ pos c 3 1 0 ∗ pos c 3 2 0 ∗ pos c 3 3 0) := by simp [quad, endRound, act_3, hz]
  have hpay0 (k : Fin 4) : dmaPay m ρ c 0 k = own c (pslice k) (Sr m ρ c k) := if_pos hz
  have hA : Above 1 (rest0 c) := above_add (above_add (above_add (above_zero _) (above_gc _ _ _ _ (by rw [dlev_1, zof_nxt, hz]; decide))) (above_gc _ _ _ _ (by rw [dlev_1, zof_nxt, hz]; decide))) (above_gc _ _ _ _ (by rw [dlev_1, zof_nxt, hz]; decide))
  unfold prog
  simp only [cc0_body_eq_skeleton]; unfold cc0_body_skel
  simp only [k0_part9_eq_skeleton, k0_part10_eq_skeleton, k0_part11_eq_skeleton]
  unfold k0_part9_skel k0_part10_skel k0_part11_skel
  obtain ⟨h1, h2, h3, h4, h5, h6, h7, h8, h9, h10, h11, h12, h13, h14⟩ := conds c
  obtain ⟨p0, p1, p2, p3⟩ := pick c
  have z0 : (zof c = 0) = True := by simp [hz]
  have z1 : (zof c = 1) = False := by simp [hz]
  have z2 : (zof c = 2) = False := by simp [hz]
  have z3 : (zof c = 3) = False := by simp [hz]
  have le1 : (zof c ≤ 1) = True := by simp [hz]
  have ge2 : (2 ≤ zof c) = False := by simp [hz]
  simp only [semSignalWord, semWaitWord, Prog.lift, Prog.bind_op, Prog.bind_ret, Prog.pure_eq_ret, wp_deviceId, h1, h2, h3, h4, h5, h6, h7, h8, h9, h10,
    h11, h12, h13, h14, zword, p0, p1, p2, p3, z0, z1, z2, z3, le1, ge2, ↓reduceDIte]
  simp only [k0_part1_eq_skeleton]; unfold k0_part1_skel
  simp only [Prog.lift, Prog.bind_op, Prog.bind_ret, Prog.pure_eq_ret, h2, h3, h6, h7, zword, p0, p1, p2, p3, z0, z1, z2, z3, ↓reduceDIte]
  have c1 : k0_cond1 c = 1#1 := by rw [h1, le1]; trivial
  have c2 : k0_cond2 c = 1#1 := by rw [h2, z0]; trivial
  have c3 : k0_cond3 c = 1#1 := by rw [h3, z0]; trivial
  have c4 : k0_cond4 c = 1#1 := by rw [h4, z0]; trivial
  unfold Pre
  iintro ⟨⟨#HR, #Hlev, HcB, ⟨-, -, -, -⟩, ⟨Cl0, -, -, -⟩, HatB, ⟨A00, A01, A02, A03⟩, ⟨A10, A11, A12, A13⟩, ⟨A20, A21, A22, A23⟩,
    ⟨A30, A31, A32, A33⟩, TbP, TbN, ⟨-, S01, S02, S03⟩, ⟨-, R01, R02, R03⟩, ⟨-, -, -, -⟩, ⟨-, -, -, -⟩, HO, Hx, Hy, ⟨%f, Ho⟩,
    ⟨Hp0, Hp1, Hp2, Hp3⟩, ⟨Hr0, Hr1, Hr2, Hr3⟩, ⟨Hl0, Hl1, Hl2, Hl3⟩⟩, Hk⟩
  ihave HO := (Entails.of_eq (congrArg (owe (F := F) c) (O₀_z0 c hz))) $$ HO
  iapply (wp_handshake m ρ K c (rest0 c) hA (dev1_eq c) (dev2_eq c)) $$ [HcB HO HatB TbP TbN Hl0]
  · rw [hPR, hPL]
    isplitr; · iexact HR
    isplitr; · iexact Hlev
    iframe
    try iempintro
  iintro ⟨HO, HatB, HGL, HGR⟩
  ihave HGR := (Entails.of_eq hGR) $$ HGR
  icases HGR with ⟨GR1, GR2, GR3⟩
  iapply (wp_chunk m ρ c 3 k0_pay3 rfl) $$ [Hx Hy Hp3]; · iframe
  iintro ⟨Hx, Hy, Hp3⟩
  iapply (wp_sendR_first m ρ K c _ (dev3_eq c c1 c2) 3 hz (by decide) rfl rfl (0 + tallyAt (gc (nxt c) 1 1) () N + tallyAt (gc (nxt c) 1 2) () N)) $$ [Hp3 GR3 HO S03 R03]
  · isplitr; · iexact HR
    iframe
  iintro ⟨Cs03, HO⟩
  iapply (wp_chunk m ρ c 2 k0_pay4 rfl) $$ [Hx Hy Hp2]; · iframe
  iintro ⟨Hx, Hy, Hp2⟩
  iapply (wp_sendR_first m ρ K c _ (dev4_eq c c1 c3) 2 hz (by decide) rfl rfl (0 + tallyAt (gc (nxt c) 1 1) () N)) $$ [Hp2 GR2 HO S02 R02]
  · isplitr; · iexact HR
    iframe
  iintro ⟨Cs02, HO⟩
  iapply (wp_chunk m ρ c 1 k0_pay5 rfl) $$ [Hx Hy Hp1]; · iframe
  iintro ⟨Hx, Hy, Hp1⟩
  iapply (wp_sendR_first m ρ K c _ (dev5_eq c c1 c4) 1 hz (by decide) rfl rfl (0)) $$ [Hp1 GR1 HO S01 R01]
  · isplitr; · iexact HR
    iframe
  iintro ⟨Cs01, HO⟩
  iapply (wp_chunk m ρ c 0 k0_pay15 rfl) $$ [Hx Hy Hp0]; · iframe
  iintro ⟨Hx, Hy, Hp0⟩
  iapply (wp_wait_cell m ρ K c 3 0 (by rw [act_3, hz]; decide) rfl (credit_l 0) _ (nL_eq c 0 (by rw [act_3, hz]; decide)) 0 (above_zero _) _ (pay_3 m ρ c 0)) $$ [Cl0 HO A30]
  · isplitr; · iexact HR
    isplitr; · iexact Hlev
    iframe
  iintro ⟨HO, A30, Hl0⟩
  iapply (wp_out2 c 0 lM k0_pay17 rfl _ _ _) $$ [Hp0 Hl0 Ho]; · iframe
  iintro ⟨Hp0, Hl0, Ho⟩
  iapply (wp_wait_cell m ρ K c 0 3 (by rw [act_0, hz]; decide) rfl (credit_p 3) _ rfl 0 (above_zero _) _ (hpay0 3)) $$ [Cs03 HO A03]
  · isplitr; · iexact HR
    isplitr; · iexact Hlev
    iframe
  iintro ⟨HO, A03, Hp3⟩
  iapply (wp_wait_cell m ρ K c 0 2 (by rw [act_0, hz]; decide) rfl (credit_p 2) _ rfl 0 (above_zero _) _ (hpay0 2)) $$ [Cs02 HO A02]
  · isplitr; · iexact HR
    isplitr; · iexact Hlev
    iframe
  iintro ⟨HO, A02, Hp2⟩
  iapply (wp_wait_cell m ρ K c 0 1 (by rw [act_0, hz]; decide) rfl (credit_p 1) _ rfl 0 (above_zero _) _ (hpay0 1)) $$ [Cs01 HO A01]
  · isplitr; · iexact HR
    isplitr; · iexact Hlev
    iframe
  iintro ⟨HO, A01, Hp1⟩
  rw [wp_ret]; imodintro
  iapply Hk
  unfold Post
  rw [e0, e1, e2, e3]
  dsimp only [quad]
  rw [show outAt m ρ c = addf (P m ρ c 0) (Sl m ρ (nxt c) 0) from if_pos hz]
  ihave Hp0 := (own_free c _ _) $$ Hp0
  ihave Hp1 := (own_free c _ _) $$ Hp1
  ihave Hp2 := (own_free c _ _) $$ Hp2
  ihave Hp3 := (own_free c _ _) $$ Hp3
  ihave Hl0 := (own_free c _ _) $$ Hl0
  iframe

/-- The body at the second place. -/
theorem body_z1 (c : Dev nD) (hz : zof c = 1) (Kt : PUnit → sProp 𝕄) :
    iprop(Pre m ρ K c ∗ (Post m ρ c -∗ Kt ⟨⟩)) ⊢ wp frame (wpE (defs₀ (F := F)) 𝒱₀ (c : Thread nD τ) none) Set.univ (prog (F := F)) Kt := by
  have hPR : barPayR (F := F) (prv c) = iprop(free (F := F) c (rslot 1) ∗ free (F := F) c (rslot 2) ∗ free (F := F) c (rslot 3)) := by rw [barPayR_quad, nxt_prv]; simp [quad, zof_prv, hz, drop_r, drop_l]
  have hPL : barPayL (F := F) (nxt c) = iprop(free (F := F) c (lslot 0) ∗ free (F := F) c (lslot 1)) := by rw [barPayL_quad, prv_nxt]; simp [quad, zof_nxt, hz, drop_r, drop_l]
  have hGR : barPayR (F := F) c = iprop(free (F := F) (nxt c) (rslot 2) ∗ free (F := F) (nxt c) (rslot 3)) := by rw [barPayR_quad]; simp [quad, hz, drop_r, drop_l]
  have hGL : barPayL (F := F) c = iprop(free (F := F) (prv c) (lslot 0)) := by rw [barPayL_quad]; simp [quad, hz, drop_r, drop_l]
  have e0 : (quad fun k => pos (F := F) c 0 k (endRound c 0 k)) = iprop(pos c 0 0 0 ∗ pos c 0 1 0 ∗ pos c 0 2 1 ∗ pos c 0 3 1) := by simp [quad, endRound, act_0, hz]
  have e1 : (quad fun k => pos (F := F) c 1 k (endRound c 1 k)) = iprop(pos c 1 0 0 ∗ pos c 1 1 1 ∗ pos c 1 2 1 ∗ pos c 1 3 1) := by simp [quad, endRound, act_1, hz]
  have e2 : (quad fun k => pos (F := F) c 2 k (endRound c 2 k)) = iprop(pos c 2 0 1 ∗ pos c 2 1 0 ∗ pos c 2 2 0 ∗ pos c 2 3 0) := by simp [quad, endRound, act_2, hz]
  have e3 : (quad fun k => pos (F := F) c 3 k (endRound c 3 k)) = iprop(pos c 3 0 1 ∗ pos c 3 1 1 ∗ pos c 3 2 0 ∗ pos c 3 3 0) := by simp [quad, endRound, act_3, hz]
  have hpay0 (k : Fin 4) : dmaPay m ρ c 0 k = own c (rslot k) (Sr m ρ c k) := if_neg (by omega)
  have hpay2 (k : Fin 4) : dmaPay m ρ c 2 k = own c (lslot k) (Sl m ρ c k) := if_neg (by omega)
  have hA : Above 1 (rest1 c) := above_add (above_add (above_add (above_zero _) (above_gc _ _ _ _ (by rw [dlev_3, zof_prv, hz]; decide))) (above_gc _ _ _ _ (by rw [dlev_1, zof_nxt, hz]; decide))) (above_gc _ _ _ _ (by rw [dlev_1, zof_nxt, hz]; decide))
  have hA0 : Above (dlev (zof c) (dsem 1 3)) (0 + tallyAt (gc (prv c) 3 0) () N + tallyAt (gc (nxt c) 1 2) () N + tallyAt (gc (nxt c) 1 3) () N : CellTallies nD τ sig Unit) := by
    rw [hz, dlev_1]; exact above_add (above_add (above_add (above_zero _) (above_gc _ _ _ _ (by rw [dlev_3, zof_prv, hz]; decide))) (above_gc _ _ _ _ (by rw [dlev_1, zof_nxt, hz]; decide))) (above_gc _ _ _ _ (by rw [dlev_1, zof_nxt, hz]; decide))
  have hA1 : Above (dlev (zof c) (dsem 1 2)) (0 + tallyAt (gc (prv c) 3 0) () N + tallyAt (gc (nxt c) 1 2) () N : CellTallies nD τ sig Unit) := by
    rw [hz, dlev_1]; exact above_add (above_add (above_zero _) (above_gc _ _ _ _ (by rw [dlev_3, zof_prv, hz]; decide))) (above_gc _ _ _ _ (by rw [dlev_1, zof_nxt, hz]; decide))
  have hA2 : Above (dlev (zof c) (dsem 3 0)) (0 + tallyAt (gc (prv c) 3 0) () N : CellTallies nD τ sig Unit) := by
    rw [hz, dlev_3]; exact above_add (above_zero _) (above_gc _ _ _ _ (by rw [dlev_3, zof_prv, hz]; decide))
  unfold prog
  simp only [cc0_body_eq_skeleton]; unfold cc0_body_skel
  simp only [k0_part9_eq_skeleton, k0_part10_eq_skeleton, k0_part11_eq_skeleton]
  unfold k0_part9_skel k0_part10_skel k0_part11_skel
  obtain ⟨h1, h2, h3, h4, h5, h6, h7, h8, h9, h10, h11, h12, h13, h14⟩ := conds c
  obtain ⟨p0, p1, p2, p3⟩ := pick c
  have z0 : (zof c = 0) = False := by simp [hz]
  have z1 : (zof c = 1) = True := by simp [hz]
  have z2 : (zof c = 2) = False := by simp [hz]
  have z3 : (zof c = 3) = False := by simp [hz]
  have le1 : (zof c ≤ 1) = True := by simp [hz]
  have ge2 : (2 ≤ zof c) = False := by simp [hz]
  simp only [semSignalWord, semWaitWord, Prog.lift, Prog.bind_op, Prog.bind_ret, Prog.pure_eq_ret, wp_deviceId, h1, h2, h3, h4, h5, h6, h7, h8, h9, h10,
    h11, h12, h13, h14, zword, p0, p1, p2, p3, z0, z1, z2, z3, le1, ge2, ↓reduceDIte]
  simp only [k0_part1_eq_skeleton, k0_part3_eq_skeleton, k0_part5_eq_skeleton, k0_part7_eq_skeleton]; unfold k0_part1_skel k0_part3_skel k0_part5_skel k0_part7_skel
  simp only [Prog.lift, Prog.bind_op, Prog.bind_ret, Prog.pure_eq_ret, h2, h3, h6, h7, zword, p0, p1, p2, p3, z0, z1, z2, z3, ↓reduceDIte]
  have c9 : k0_cond9 c = 1#1 := by rw [h9, z1]; trivial
  have c11 : k0_cond11 c = 1#1 := by rw [h11, z1]; trivial
  have c13 : k0_cond13 c = 1#1 := by rw [h13, z1]; trivial
  unfold Pre
  iintro ⟨⟨#HR, #Hlev, HcB, ⟨-, Cr1, Cr2, Cr3⟩, ⟨Cl0, Cl1, -, -⟩, HatB, ⟨A00, A01, A02, A03⟩, ⟨A10, A11, A12, A13⟩, ⟨A20, A21, A22, A23⟩,
    ⟨A30, A31, A32, A33⟩, TbP, TbN, ⟨-, -, S02, S03⟩, ⟨-, -, R02, R03⟩, ⟨S20, -, -, -⟩, ⟨R20, -, -, -⟩, HO, Hx, Hy, ⟨%f, Ho⟩,
    ⟨Hp0, Hp1, Hp2, Hp3⟩, ⟨Hr0, Hr1, Hr2, Hr3⟩, ⟨Hl0, Hl1, Hl2, Hl3⟩⟩, Hk⟩
  ihave HO := (Entails.of_eq (congrArg (owe (F := F) c) (O₀_z1 c hz))) $$ HO
  iapply (wp_handshake m ρ K c (rest1 c) hA (dev1_eq c) (dev2_eq c)) $$ [HcB HO HatB TbP TbN Hr1 Hr2 Hr3 Hl0 Hl1]
  · rw [hPR, hPL]
    isplitr; · iexact HR
    isplitr; · iexact Hlev
    iframe
  iintro ⟨HO, HatB, HGL, HGR⟩
  ihave HGL := (Entails.of_eq hGL) $$ HGL
  icases HGL with ⟨GL0⟩
  ihave HGR := (Entails.of_eq hGR) $$ HGR
  icases HGR with ⟨GR2, GR3⟩
  iapply (wp_chunk m ρ c 3 k0_pay3 rfl) $$ [Hx Hy Hp3]; · iframe
  iintro ⟨Hx, Hy, Hp3⟩
  iapply (wp_chunk m ρ c 2 k0_pay4 rfl) $$ [Hx Hy Hp2]; · iframe
  iintro ⟨Hx, Hy, Hp2⟩
  iapply (wp_chunk m ρ c 1 k0_pay5 rfl) $$ [Hx Hy Hp1]; · iframe
  iintro ⟨Hx, Hy, Hp1⟩
  iapply (wp_chunk m ρ c 0 k0_pay15 rfl) $$ [Hx Hy Hp0]; · iframe
  iintro ⟨Hx, Hy, Hp0⟩
  iapply (wp_wait_cell m ρ K c 1 3 (by rw [act_1, hz]; decide) rfl (credit_r 3) _ (nR_eq c 3 (by rw [act_1, hz]; decide)) (0 + tallyAt (gc (prv c) 3 0) () N + tallyAt (gc (nxt c) 1 2) () N + tallyAt (gc (nxt c) 1 3) () N) hA0 _ (pay_1 m ρ c 3)) $$ [Cr3 HO A13]
  · isplitr; · iexact HR
    isplitr; · iexact Hlev
    iframe
  iintro ⟨HO, A13, Hr3⟩
  iapply (wp_addslot c 3 rM k0_pay9 rfl _ _) $$ [Hr3 Hp3]; · iframe
  iintro ⟨Hr3, Hp3⟩
  iapply (wp_sendR_next m ρ K c _ (dev9_eq c c9) 3 (by omega) (by rw [hz]; decide) rfl rfl (0 + tallyAt (gc (prv c) 3 0) () N + tallyAt (gc (nxt c) 1 2) () N)) $$ [Hr3 GR3 HO S03 R03]
  · isplitr; · iexact HR
    iframe
  iintro ⟨Cs03, HO⟩
  iapply (wp_wait_cell m ρ K c 1 2 (by rw [act_1, hz]; decide) rfl (credit_r 2) _ (nR_eq c 2 (by rw [act_1, hz]; decide)) (0 + tallyAt (gc (prv c) 3 0) () N + tallyAt (gc (nxt c) 1 2) () N) hA1 _ (pay_1 m ρ c 2)) $$ [Cr2 HO A12]
  · isplitr; · iexact HR
    isplitr; · iexact Hlev
    iframe
  iintro ⟨HO, A12, Hr2⟩
  iapply (wp_addslot c 2 rM k0_pay11 rfl _ _) $$ [Hr2 Hp2]; · iframe
  iintro ⟨Hr2, Hp2⟩
  iapply (wp_sendR_next m ρ K c _ (dev11_eq c c11) 2 (by omega) (by rw [hz]; decide) rfl rfl (0 + tallyAt (gc (prv c) 3 0) () N)) $$ [Hr2 GR2 HO S02 R02]
  · isplitr; · iexact HR
    iframe
  iintro ⟨Cs02, HO⟩
  iapply (wp_wait_cell m ρ K c 3 0 (by rw [act_3, hz]; decide) rfl (credit_l 0) _ (nL_eq c 0 (by rw [act_3, hz]; decide)) (0 + tallyAt (gc (prv c) 3 0) () N) hA2 _ (pay_3 m ρ c 0)) $$ [Cl0 HO A30]
  · isplitr; · iexact HR
    isplitr; · iexact Hlev
    iframe
  iintro ⟨HO, A30, Hl0⟩
  iapply (wp_addslot c 0 lM k0_pay13 rfl _ _) $$ [Hl0 Hp0]; · iframe
  iintro ⟨Hl0, Hp0⟩
  iapply (wp_sendL_next m ρ K c _ (dev13_eq c c13) 0 (by omega) (by rw [hz]; decide) rfl rfl (0)) $$ [Hl0 GL0 HO S20 R20]
  · isplitr; · iexact HR
    iframe
  iintro ⟨Cs20, HO⟩
  iapply (wp_wait_cell m ρ K c 1 1 (by rw [act_1, hz]; decide) rfl (credit_r 1) _ (nR_eq c 1 (by rw [act_1, hz]; decide)) 0 (above_zero _) _ (pay_1 m ρ c 1)) $$ [Cr1 HO A11]
  · isplitr; · iexact HR
    isplitr; · iexact Hlev
    iframe
  iintro ⟨HO, A11, Hr1⟩
  iapply (wp_wait_cell m ρ K c 3 1 (by rw [act_3, hz]; decide) rfl (credit_l 1) _ (nL_eq c 1 (by rw [act_3, hz]; decide)) 0 (above_zero _) _ (pay_3 m ρ c 1)) $$ [Cl1 HO A31]
  · isplitr; · iexact HR
    isplitr; · iexact Hlev
    iframe
  iintro ⟨HO, A31, Hl1⟩
  iapply (wp_out3 c 1 k0_pay18 rfl _ _ _ _) $$ [Hp1 Hr1 Hl1 Ho]; · iframe
  iintro ⟨Hp1, Hr1, Hl1, Ho⟩
  iapply (wp_wait_cell m ρ K c 0 2 (by rw [act_0, hz]; decide) rfl (credit_r 2) _ rfl 0 (above_zero _) _ (hpay0 2)) $$ [Cs02 HO A02]
  · isplitr; · iexact HR
    isplitr; · iexact Hlev
    iframe
  iintro ⟨HO, A02, Hr2⟩
  iapply (wp_wait_cell m ρ K c 0 3 (by rw [act_0, hz]; decide) rfl (credit_r 3) _ rfl 0 (above_zero _) _ (hpay0 3)) $$ [Cs03 HO A03]
  · isplitr; · iexact HR
    isplitr; · iexact Hlev
    iframe
  iintro ⟨HO, A03, Hr3⟩
  iapply (wp_wait_cell m ρ K c 2 0 (by rw [act_2, hz]; decide) rfl (credit_l 0) _ rfl 0 (above_zero _) _ (hpay2 0)) $$ [Cs20 HO A20]
  · isplitr; · iexact HR
    isplitr; · iexact Hlev
    iframe
  iintro ⟨HO, A20, Hl0⟩
  rw [wp_ret]; imodintro
  iapply Hk
  unfold Post
  rw [e0, e1, e2, e3]
  dsimp only [quad]
  rw [show outAt m ρ c = addf (addf (P m ρ c 1) (Sr m ρ (prv c) 1)) (Sl m ρ (nxt c) 1) from (if_neg (by omega)).trans (if_pos hz)]
  ihave Hp0 := (own_free c _ _) $$ Hp0
  ihave Hp1 := (own_free c _ _) $$ Hp1
  ihave Hp2 := (own_free c _ _) $$ Hp2
  ihave Hp3 := (own_free c _ _) $$ Hp3
  ihave Hr1 := (own_free c _ _) $$ Hr1
  ihave Hr2 := (own_free c _ _) $$ Hr2
  ihave Hr3 := (own_free c _ _) $$ Hr3
  ihave Hl0 := (own_free c _ _) $$ Hl0
  ihave Hl1 := (own_free c _ _) $$ Hl1
  iframe

/-- The body at the third place. -/
theorem body_z2 (c : Dev nD) (hz : zof c = 2) (Kt : PUnit → sProp 𝕄) :
    iprop(Pre m ρ K c ∗ (Post m ρ c -∗ Kt ⟨⟩)) ⊢ wp frame (wpE (defs₀ (F := F)) 𝒱₀ (c : Thread nD τ) none) Set.univ (prog (F := F)) Kt := by
  have hPR : barPayR (F := F) (prv c) = iprop(free (F := F) c (rslot 2) ∗ free (F := F) c (rslot 3)) := by rw [barPayR_quad, nxt_prv]; simp [quad, zof_prv, hz, drop_r, drop_l]
  have hPL : barPayL (F := F) (nxt c) = iprop(free (F := F) c (lslot 0) ∗ free (F := F) c (lslot 1) ∗ free (F := F) c (lslot 2)) := by rw [barPayL_quad, prv_nxt]; simp [quad, zof_nxt, hz, drop_r, drop_l]
  have hGR : barPayR (F := F) c = iprop(free (F := F) (nxt c) (rslot 3)) := by rw [barPayR_quad]; simp [quad, hz, drop_r, drop_l]
  have hGL : barPayL (F := F) c = iprop(free (F := F) (prv c) (lslot 0) ∗ free (F := F) (prv c) (lslot 1)) := by rw [barPayL_quad]; simp [quad, hz, drop_r, drop_l]
  have e0 : (quad fun k => pos (F := F) c 0 k (endRound c 0 k)) = iprop(pos c 0 0 0 ∗ pos c 0 1 0 ∗ pos c 0 2 0 ∗ pos c 0 3 1) := by simp [quad, endRound, act_0, hz]
  have e1 : (quad fun k => pos (F := F) c 1 k (endRound c 1 k)) = iprop(pos c 1 0 0 ∗ pos c 1 1 0 ∗ pos c 1 2 1 ∗ pos c 1 3 1) := by simp [quad, endRound, act_1, hz]
  have e2 : (quad fun k => pos (F := F) c 2 k (endRound c 2 k)) = iprop(pos c 2 0 1 ∗ pos c 2 1 1 ∗ pos c 2 2 0 ∗ pos c 2 3 0) := by simp [quad, endRound, act_2, hz]
  have e3 : (quad fun k => pos (F := F) c 3 k (endRound c 3 k)) = iprop(pos c 3 0 1 ∗ pos c 3 1 1 ∗ pos c 3 2 1 ∗ pos c 3 3 0) := by simp [quad, endRound, act_3, hz]
  have hpay0 (k : Fin 4) : dmaPay m ρ c 0 k = own c (rslot k) (Sr m ρ c k) := if_neg (by omega)
  have hpay2 (k : Fin 4) : dmaPay m ρ c 2 k = own c (lslot k) (Sl m ρ c k) := if_neg (by omega)
  have hA : Above 1 (rest2 c) := above_add (above_add (above_add (above_zero _) (above_gc _ _ _ _ (by rw [dlev_3, zof_prv, hz]; decide))) (above_gc _ _ _ _ (by rw [dlev_1, zof_nxt, hz]; decide))) (above_gc _ _ _ _ (by rw [dlev_3, zof_prv, hz]; decide))
  have hA0 : Above (dlev (zof c) (dsem 3 0)) (0 + tallyAt (gc (prv c) 3 1) () N + tallyAt (gc (nxt c) 1 3) () N + tallyAt (gc (prv c) 3 0) () N : CellTallies nD τ sig Unit) := by
    rw [hz, dlev_3]; exact above_add (above_add (above_add (above_zero _) (above_gc _ _ _ _ (by rw [dlev_3, zof_prv, hz]; decide))) (above_gc _ _ _ _ (by rw [dlev_1, zof_nxt, hz]; decide))) (above_gc _ _ _ _ (by rw [dlev_3, zof_prv, hz]; decide))
  have hA1 : Above (dlev (zof c) (dsem 1 3)) (0 + tallyAt (gc (prv c) 3 1) () N + tallyAt (gc (nxt c) 1 3) () N : CellTallies nD τ sig Unit) := by
    rw [hz, dlev_1]; exact above_add (above_add (above_zero _) (above_gc _ _ _ _ (by rw [dlev_3, zof_prv, hz]; decide))) (above_gc _ _ _ _ (by rw [dlev_1, zof_nxt, hz]; decide))
  have hA2 : Above (dlev (zof c) (dsem 3 1)) (0 + tallyAt (gc (prv c) 3 1) () N : CellTallies nD τ sig Unit) := by
    rw [hz, dlev_3]; exact above_add (above_zero _) (above_gc _ _ _ _ (by rw [dlev_3, zof_prv, hz]; decide))
  unfold prog
  simp only [cc0_body_eq_skeleton]; unfold cc0_body_skel
  simp only [k0_part9_eq_skeleton, k0_part10_eq_skeleton, k0_part11_eq_skeleton]
  unfold k0_part9_skel k0_part10_skel k0_part11_skel
  obtain ⟨h1, h2, h3, h4, h5, h6, h7, h8, h9, h10, h11, h12, h13, h14⟩ := conds c
  obtain ⟨p0, p1, p2, p3⟩ := pick c
  have z0 : (zof c = 0) = False := by simp [hz]
  have z1 : (zof c = 1) = False := by simp [hz]
  have z2 : (zof c = 2) = True := by simp [hz]
  have z3 : (zof c = 3) = False := by simp [hz]
  have le1 : (zof c ≤ 1) = False := by simp [hz]
  have ge2 : (2 ≤ zof c) = True := by simp [hz]
  simp only [semSignalWord, semWaitWord, Prog.lift, Prog.bind_op, Prog.bind_ret, Prog.pure_eq_ret, wp_deviceId, h1, h2, h3, h4, h5, h6, h7, h8, h9, h10,
    h11, h12, h13, h14, zword, p0, p1, p2, p3, z0, z1, z2, z3, le1, ge2, ↓reduceDIte]
  simp only [k0_part2_eq_skeleton, k0_part4_eq_skeleton, k0_part6_eq_skeleton, k0_part8_eq_skeleton]; unfold k0_part2_skel k0_part4_skel k0_part6_skel k0_part8_skel
  simp only [Prog.lift, Prog.bind_op, Prog.bind_ret, Prog.pure_eq_ret, h2, h3, h6, h7, zword, p0, p1, p2, p3, z0, z1, z2, z3, ↓reduceDIte]
  have c10 : k0_cond10 c = 1#1 := by rw [h10, z2]; trivial
  have c12 : k0_cond12 c = 1#1 := by rw [h12, z2]; trivial
  have c14 : k0_cond14 c = 1#1 := by rw [h14, z2]; trivial
  unfold Pre
  iintro ⟨⟨#HR, #Hlev, HcB, ⟨-, -, Cr2, Cr3⟩, ⟨Cl0, Cl1, Cl2, -⟩, HatB, ⟨A00, A01, A02, A03⟩, ⟨A10, A11, A12, A13⟩, ⟨A20, A21, A22, A23⟩,
    ⟨A30, A31, A32, A33⟩, TbP, TbN, ⟨-, -, -, S03⟩, ⟨-, -, -, R03⟩, ⟨S20, S21, -, -⟩, ⟨R20, R21, -, -⟩, HO, Hx, Hy, ⟨%f, Ho⟩,
    ⟨Hp0, Hp1, Hp2, Hp3⟩, ⟨Hr0, Hr1, Hr2, Hr3⟩, ⟨Hl0, Hl1, Hl2, Hl3⟩⟩, Hk⟩
  ihave HO := (Entails.of_eq (congrArg (owe (F := F) c) (O₀_z2 c hz))) $$ HO
  iapply (wp_handshake m ρ K c (rest2 c) hA (dev1_eq c) (dev2_eq c)) $$ [HcB HO HatB TbP TbN Hr2 Hr3 Hl0 Hl1 Hl2]
  · rw [hPR, hPL]
    isplitr; · iexact HR
    isplitr; · iexact Hlev
    iframe
  iintro ⟨HO, HatB, HGL, HGR⟩
  ihave HGL := (Entails.of_eq hGL) $$ HGL
  icases HGL with ⟨GL0, GL1⟩
  ihave HGR := (Entails.of_eq hGR) $$ HGR
  icases HGR with ⟨GR3⟩
  iapply (wp_chunk m ρ c 0 k0_pay6 rfl) $$ [Hx Hy Hp0]; · iframe
  iintro ⟨Hx, Hy, Hp0⟩
  iapply (wp_chunk m ρ c 1 k0_pay7 rfl) $$ [Hx Hy Hp1]; · iframe
  iintro ⟨Hx, Hy, Hp1⟩
  iapply (wp_chunk m ρ c 2 k0_pay8 rfl) $$ [Hx Hy Hp2]; · iframe
  iintro ⟨Hx, Hy, Hp2⟩
  iapply (wp_chunk m ρ c 3 k0_pay16 rfl) $$ [Hx Hy Hp3]; · iframe
  iintro ⟨Hx, Hy, Hp3⟩
  iapply (wp_wait_cell m ρ K c 3 0 (by rw [act_3, hz]; decide) rfl (credit_l 0) _ (nL_eq c 0 (by rw [act_3, hz]; decide)) (0 + tallyAt (gc (prv c) 3 1) () N + tallyAt (gc (nxt c) 1 3) () N + tallyAt (gc (prv c) 3 0) () N) hA0 _ (pay_3 m ρ c 0)) $$ [Cl0 HO A30]
  · isplitr; · iexact HR
    isplitr; · iexact Hlev
    iframe
  iintro ⟨HO, A30, Hl0⟩
  iapply (wp_addslot c 0 lM k0_pay10 rfl _ _) $$ [Hl0 Hp0]; · iframe
  iintro ⟨Hl0, Hp0⟩
  iapply (wp_sendL_next m ρ K c _ (dev10_eq c c10) 0 (by omega) (by rw [hz]; decide) rfl rfl (0 + tallyAt (gc (prv c) 3 1) () N + tallyAt (gc (nxt c) 1 3) () N)) $$ [Hl0 GL0 HO S20 R20]
  · isplitr; · iexact HR
    iframe
  iintro ⟨Cs20, HO⟩
  iapply (wp_wait_cell m ρ K c 1 3 (by rw [act_1, hz]; decide) rfl (credit_r 3) _ (nR_eq c 3 (by rw [act_1, hz]; decide)) (0 + tallyAt (gc (prv c) 3 1) () N + tallyAt (gc (nxt c) 1 3) () N) hA1 _ (pay_1 m ρ c 3)) $$ [Cr3 HO A13]
  · isplitr; · iexact HR
    isplitr; · iexact Hlev
    iframe
  iintro ⟨HO, A13, Hr3⟩
  iapply (wp_addslot c 3 rM k0_pay12 rfl _ _) $$ [Hr3 Hp3]; · iframe
  iintro ⟨Hr3, Hp3⟩
  iapply (wp_sendR_next m ρ K c _ (dev12_eq c c12) 3 (by omega) (by rw [hz]; decide) rfl rfl (0 + tallyAt (gc (prv c) 3 1) () N)) $$ [Hr3 GR3 HO S03 R03]
  · isplitr; · iexact HR
    iframe
  iintro ⟨Cs03, HO⟩
  iapply (wp_wait_cell m ρ K c 3 1 (by rw [act_3, hz]; decide) rfl (credit_l 1) _ (nL_eq c 1 (by rw [act_3, hz]; decide)) (0 + tallyAt (gc (prv c) 3 1) () N) hA2 _ (pay_3 m ρ c 1)) $$ [Cl1 HO A31]
  · isplitr; · iexact HR
    isplitr; · iexact Hlev
    iframe
  iintro ⟨HO, A31, Hl1⟩
  iapply (wp_addslot c 1 lM k0_pay14 rfl _ _) $$ [Hl1 Hp1]; · iframe
  iintro ⟨Hl1, Hp1⟩
  iapply (wp_sendL_next m ρ K c _ (dev14_eq c c14) 1 (by omega) (by rw [hz]; decide) rfl rfl (0)) $$ [Hl1 GL1 HO S21 R21]
  · isplitr; · iexact HR
    iframe
  iintro ⟨Cs21, HO⟩
  iapply (wp_wait_cell m ρ K c 1 2 (by rw [act_1, hz]; decide) rfl (credit_r 2) _ (nR_eq c 2 (by rw [act_1, hz]; decide)) 0 (above_zero _) _ (pay_1 m ρ c 2)) $$ [Cr2 HO A12]
  · isplitr; · iexact HR
    isplitr; · iexact Hlev
    iframe
  iintro ⟨HO, A12, Hr2⟩
  iapply (wp_wait_cell m ρ K c 3 2 (by rw [act_3, hz]; decide) rfl (credit_l 2) _ (nL_eq c 2 (by rw [act_3, hz]; decide)) 0 (above_zero _) _ (pay_3 m ρ c 2)) $$ [Cl2 HO A32]
  · isplitr; · iexact HR
    isplitr; · iexact Hlev
    iframe
  iintro ⟨HO, A32, Hl2⟩
  iapply (wp_out3 c 2 k0_pay1 rfl _ _ _ _) $$ [Hp2 Hr2 Hl2 Ho]; · iframe
  iintro ⟨Hp2, Hr2, Hl2, Ho⟩
  iapply (wp_wait_cell m ρ K c 0 3 (by rw [act_0, hz]; decide) rfl (credit_r 3) _ rfl 0 (above_zero _) _ (hpay0 3)) $$ [Cs03 HO A03]
  · isplitr; · iexact HR
    isplitr; · iexact Hlev
    iframe
  iintro ⟨HO, A03, Hr3⟩
  iapply (wp_wait_cell m ρ K c 2 0 (by rw [act_2, hz]; decide) rfl (credit_l 0) _ rfl 0 (above_zero _) _ (hpay2 0)) $$ [Cs20 HO A20]
  · isplitr; · iexact HR
    isplitr; · iexact Hlev
    iframe
  iintro ⟨HO, A20, Hl0⟩
  iapply (wp_wait_cell m ρ K c 2 1 (by rw [act_2, hz]; decide) rfl (credit_l 1) _ rfl 0 (above_zero _) _ (hpay2 1)) $$ [Cs21 HO A21]
  · isplitr; · iexact HR
    isplitr; · iexact Hlev
    iframe
  iintro ⟨HO, A21, Hl1⟩
  rw [wp_ret]; imodintro
  iapply Hk
  unfold Post
  rw [e0, e1, e2, e3]
  dsimp only [quad]
  rw [show outAt m ρ c = addf (addf (P m ρ c 2) (Sr m ρ (prv c) 2)) (Sl m ρ (nxt c) 2) from (if_neg (by omega)).trans ((if_neg (by omega)).trans (if_pos hz))]
  ihave Hp0 := (own_free c _ _) $$ Hp0
  ihave Hp1 := (own_free c _ _) $$ Hp1
  ihave Hp2 := (own_free c _ _) $$ Hp2
  ihave Hp3 := (own_free c _ _) $$ Hp3
  ihave Hr2 := (own_free c _ _) $$ Hr2
  ihave Hr3 := (own_free c _ _) $$ Hr3
  ihave Hl0 := (own_free c _ _) $$ Hl0
  ihave Hl1 := (own_free c _ _) $$ Hl1
  ihave Hl2 := (own_free c _ _) $$ Hl2
  iframe

/-- The body at the last place. -/
theorem body_z3 (c : Dev nD) (hz : zof c = 3) (Kt : PUnit → sProp 𝕄) :
    iprop(Pre m ρ K c ∗ (Post m ρ c -∗ Kt ⟨⟩)) ⊢ wp frame (wpE (defs₀ (F := F)) 𝒱₀ (c : Thread nD τ) none) Set.univ (prog (F := F)) Kt := by
  have hPR : barPayR (F := F) (prv c) = iprop(free (F := F) c (rslot 3)) := by rw [barPayR_quad, nxt_prv]; simp [quad, zof_prv, hz, drop_r, drop_l]
  have hPL : barPayL (F := F) (nxt c) = iprop(emp) := by rw [barPayL_quad, prv_nxt]; simp [quad, zof_nxt, hz, drop_r, drop_l]
  have hGR : barPayR (F := F) c = iprop(emp) := by rw [barPayR_quad]; simp [quad, hz, drop_r, drop_l]
  have hGL : barPayL (F := F) c = iprop(free (F := F) (prv c) (lslot 0) ∗ free (F := F) (prv c) (lslot 1) ∗ free (F := F) (prv c) (lslot 2)) := by rw [barPayL_quad]; simp [quad, hz, drop_r, drop_l]
  have e0 : (quad fun k => pos (F := F) c 0 k (endRound c 0 k)) = iprop(pos c 0 0 0 ∗ pos c 0 1 0 ∗ pos c 0 2 0 ∗ pos c 0 3 0) := by simp [quad, endRound, act_0, hz]
  have e1 : (quad fun k => pos (F := F) c 1 k (endRound c 1 k)) = iprop(pos c 1 0 0 ∗ pos c 1 1 0 ∗ pos c 1 2 0 ∗ pos c 1 3 1) := by simp [quad, endRound, act_1, hz]
  have e2 : (quad fun k => pos (F := F) c 2 k (endRound c 2 k)) = iprop(pos c 2 0 1 ∗ pos c 2 1 1 ∗ pos c 2 2 1 ∗ pos c 2 3 0) := by simp [quad, endRound, act_2, hz]
  have e3 : (quad fun k => pos (F := F) c 3 k (endRound c 3 k)) = iprop(pos c 3 0 0 ∗ pos c 3 1 0 ∗ pos c 3 2 0 ∗ pos c 3 3 0) := by simp [quad, endRound, act_3, hz]
  have hpay2 (k : Fin 4) : dmaPay m ρ c 2 k = own c (pslice k) (Sl m ρ c k) := if_pos hz
  have hA : Above 1 (rest3 c) := above_add (above_add (above_add (above_zero _) (above_gc _ _ _ _ (by rw [dlev_3, zof_prv, hz]; decide))) (above_gc _ _ _ _ (by rw [dlev_3, zof_prv, hz]; decide))) (above_gc _ _ _ _ (by rw [dlev_3, zof_prv, hz]; decide))
  unfold prog
  simp only [cc0_body_eq_skeleton]; unfold cc0_body_skel
  simp only [k0_part9_eq_skeleton, k0_part10_eq_skeleton, k0_part11_eq_skeleton]
  unfold k0_part9_skel k0_part10_skel k0_part11_skel
  obtain ⟨h1, h2, h3, h4, h5, h6, h7, h8, h9, h10, h11, h12, h13, h14⟩ := conds c
  obtain ⟨p0, p1, p2, p3⟩ := pick c
  have z0 : (zof c = 0) = False := by simp [hz]
  have z1 : (zof c = 1) = False := by simp [hz]
  have z2 : (zof c = 2) = False := by simp [hz]
  have z3 : (zof c = 3) = True := by simp [hz]
  have le1 : (zof c ≤ 1) = False := by simp [hz]
  have ge2 : (2 ≤ zof c) = True := by simp [hz]
  simp only [semSignalWord, semWaitWord, Prog.lift, Prog.bind_op, Prog.bind_ret, Prog.pure_eq_ret, wp_deviceId, h1, h2, h3, h4, h5, h6, h7, h8, h9, h10,
    h11, h12, h13, h14, zword, p0, p1, p2, p3, z0, z1, z2, z3, le1, ge2, ↓reduceDIte]
  simp only [k0_part2_eq_skeleton]; unfold k0_part2_skel
  simp only [Prog.lift, Prog.bind_op, Prog.bind_ret, Prog.pure_eq_ret, h2, h3, h6, h7, zword, p0, p1, p2, p3, z0, z1, z2, z3, ↓reduceDIte]
  have c5 : k0_cond5 c = 1#1 := by rw [h5, ge2]; trivial
  have c6 : k0_cond6 c = 1#1 := by rw [h6, z3]; trivial
  have c7 : k0_cond7 c = 1#1 := by rw [h7, z3]; trivial
  have c8 : k0_cond8 c = 1#1 := by rw [h8, z3]; trivial
  unfold Pre
  iintro ⟨⟨#HR, #Hlev, HcB, ⟨-, -, -, Cr3⟩, ⟨-, -, -, -⟩, HatB, ⟨A00, A01, A02, A03⟩, ⟨A10, A11, A12, A13⟩, ⟨A20, A21, A22, A23⟩,
    ⟨A30, A31, A32, A33⟩, TbP, TbN, ⟨-, -, -, -⟩, ⟨-, -, -, -⟩, ⟨S20, S21, S22, -⟩, ⟨R20, R21, R22, -⟩, HO, Hx, Hy, ⟨%f, Ho⟩,
    ⟨Hp0, Hp1, Hp2, Hp3⟩, ⟨Hr0, Hr1, Hr2, Hr3⟩, ⟨Hl0, Hl1, Hl2, Hl3⟩⟩, Hk⟩
  ihave HO := (Entails.of_eq (congrArg (owe (F := F) c) (O₀_z3 c hz))) $$ HO
  iapply (wp_handshake m ρ K c (rest3 c) hA (dev1_eq c) (dev2_eq c)) $$ [HcB HO HatB TbP TbN Hr3]
  · rw [hPR, hPL]
    isplitr; · iexact HR
    isplitr; · iexact Hlev
    iframe
    try iempintro
  iintro ⟨HO, HatB, HGL, HGR⟩
  ihave HGL := (Entails.of_eq hGL) $$ HGL
  icases HGL with ⟨GL0, GL1, GL2⟩
  iapply (wp_chunk m ρ c 0 k0_pay6 rfl) $$ [Hx Hy Hp0]; · iframe
  iintro ⟨Hx, Hy, Hp0⟩
  iapply (wp_sendL_first m ρ K c _ (dev6_eq c c5 c6) 0 hz (by decide) rfl rfl (0 + tallyAt (gc (prv c) 3 2) () N + tallyAt (gc (prv c) 3 1) () N)) $$ [Hp0 GL0 HO S20 R20]
  · isplitr; · iexact HR
    iframe
  iintro ⟨Cs20, HO⟩
  iapply (wp_chunk m ρ c 1 k0_pay7 rfl) $$ [Hx Hy Hp1]; · iframe
  iintro ⟨Hx, Hy, Hp1⟩
  iapply (wp_sendL_first m ρ K c _ (dev7_eq c c5 c7) 1 hz (by decide) rfl rfl (0 + tallyAt (gc (prv c) 3 2) () N)) $$ [Hp1 GL1 HO S21 R21]
  · isplitr; · iexact HR
    iframe
  iintro ⟨Cs21, HO⟩
  iapply (wp_chunk m ρ c 2 k0_pay8 rfl) $$ [Hx Hy Hp2]; · iframe
  iintro ⟨Hx, Hy, Hp2⟩
  iapply (wp_sendL_first m ρ K c _ (dev8_eq c c5 c8) 2 hz (by decide) rfl rfl (0)) $$ [Hp2 GL2 HO S22 R22]
  · isplitr; · iexact HR
    iframe
  iintro ⟨Cs22, HO⟩
  iapply (wp_chunk m ρ c 3 k0_pay16 rfl) $$ [Hx Hy Hp3]; · iframe
  iintro ⟨Hx, Hy, Hp3⟩
  iapply (wp_wait_cell m ρ K c 1 3 (by rw [act_1, hz]; decide) rfl (credit_r 3) _ (nR_eq c 3 (by rw [act_1, hz]; decide)) 0 (above_zero _) _ (pay_1 m ρ c 3)) $$ [Cr3 HO A13]
  · isplitr; · iexact HR
    isplitr; · iexact Hlev
    iframe
  iintro ⟨HO, A13, Hr3⟩
  iapply (wp_out2 c 3 rM k0_pay2 rfl _ _ _) $$ [Hp3 Hr3 Ho]; · iframe
  iintro ⟨Hp3, Hr3, Ho⟩
  iapply (wp_wait_cell m ρ K c 2 0 (by rw [act_2, hz]; decide) rfl (credit_p 0) _ rfl 0 (above_zero _) _ (hpay2 0)) $$ [Cs20 HO A20]
  · isplitr; · iexact HR
    isplitr; · iexact Hlev
    iframe
  iintro ⟨HO, A20, Hp0⟩
  iapply (wp_wait_cell m ρ K c 2 1 (by rw [act_2, hz]; decide) rfl (credit_p 1) _ rfl 0 (above_zero _) _ (hpay2 1)) $$ [Cs21 HO A21]
  · isplitr; · iexact HR
    isplitr; · iexact Hlev
    iframe
  iintro ⟨HO, A21, Hp1⟩
  iapply (wp_wait_cell m ρ K c 2 2 (by rw [act_2, hz]; decide) rfl (credit_p 2) _ rfl 0 (above_zero _) _ (hpay2 2)) $$ [Cs22 HO A22]
  · isplitr; · iexact HR
    isplitr; · iexact Hlev
    iframe
  iintro ⟨HO, A22, Hp2⟩
  rw [wp_ret]; imodintro
  iapply Hk
  unfold Post
  rw [e0, e1, e2, e3]
  dsimp only [quad]
  rw [show outAt m ρ c = addf (P m ρ c 3) (Sr m ρ (prv c) 3) from (if_neg (by omega)).trans ((if_neg (by omega)).trans (if_neg (by omega)))]
  ihave Hp0 := (own_free c _ _) $$ Hp0
  ihave Hp1 := (own_free c _ _) $$ Hp1
  ihave Hp2 := (own_free c _ _) $$ Hp2
  ihave Hp3 := (own_free c _ _) $$ Hp3
  ihave Hr3 := (own_free c _ _) $$ Hr3
  iframe

/-- The body at any place: from `Pre` it ends in `Post`. -/
theorem body_all (c : Dev nD) (Kt : PUnit → sProp 𝕄) :
    iprop(Pre m ρ K c ∗ (Post m ρ c -∗ Kt ⟨⟩)) ⊢ wp frame (wpE (defs₀ (F := F)) 𝒱₀ (c : Thread nD τ) none) Set.univ (prog (F := F)) Kt := by
  have h := zof_lt c
  rcases (by omega : zof c = 0 ∨ zof c = 1 ∨ zof c = 2 ∨ zof c = 3) with h | h | h | h
  · exact body_z0 m ρ K c h Kt
  · exact body_z1 m ρ K c h Kt
  · exact body_z2 m ρ K c h Kt
  · exact body_z3 m ρ K c h Kt

end Cert.KernelIdealProof

end
-- ==== Proof.Launch.lean ====
/- What a device holds at the launch and at the end of its body, the windows' contents between, and the body's obligation:
   from the one to the other. -/
module

public import proofs.«01_k».proof.Proof.Body
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers, slot by slot -/

section Cut

variable (c : Dev nD)

/-- A part of a buffer held at contents not stated is its elements held at some contents. -/
theorem free_eq {s : Shape} {e : EltTy} (M : Memref sig .tc .vmem s e) :
    free (F := F) c M = iprop(∃ f : Buf (Elt F) (M.view.loc (c : Thread nD τ)), M.view.loc (c : Thread nD τ) ↦[M.view.set]{fullShare} f) := by
  refine equiv_iff.mp ⟨show free (F := F) c M ⊢ _ from ?_, show _ ⊢ free (F := F) c M from ?_⟩
  · unfold free own owns
    iintro ⟨%X, %f, %hf, H⟩; iexists f; iexact H
  · unfold free own owns
    iintro ⟨%f, H⟩; iexists (M.view.read (Elt F) f), f
    isplitr; · ipureintro; rfl
    iexact H

theorem prect_disjoint (k k' : Fin 4) (h : k ≠ k') : Disjoint (prect k).set (prect k').set :=
  Ring.lead_disjoint (s := S512x2048) (NB := 4) 0 128 (fun k => ![128 * k.val, 0]) S128x2048.size inbP (fun _ => rfl) rfl k k' h
theorem prect_cover : Finset.univ.biUnion (fun k => (prect k).set) = Finset.univ :=
  Ring.lead_cover (s := S512x2048) (NB := 4) 0 128 (fun k => ![128 * k.val, 0]) S128x2048.size inbP (fun _ => rfl)
    (fun k a ha => by fin_cases a; · exact absurd rfl ha
                      · rfl) rfl (fun a ha => by fin_cases a; · exact absurd rfl ha
                                                 · rfl) rfl
theorem srect_disjoint (k k' : Fin 4) (h : k ≠ k') : Disjoint (srect k).set (srect k').set :=
  Ring.lead_disjoint (s := S4x128x2048) (NB := 4) 0 1 (fun k => ![k.val, 0, 0]) S1x128x2048.size inbS (fun k => (Nat.one_mul _).symm) rfl k k' h
theorem srect_cover : Finset.univ.biUnion (fun k => (srect k).set) = Finset.univ :=
  Ring.lead_cover (s := S4x128x2048) (NB := 4) 0 1 (fun k => ![k.val, 0, 0]) S1x128x2048.size inbS (fun k => (Nat.one_mul _).symm)
    (fun k a ha => by fin_cases a; · exact absurd rfl ha
                      · rfl
                      · rfl) rfl (fun a ha => by fin_cases a; · exact absurd rfl ha
                                                 · rfl
                                                 · rfl) rfl

theorem pslice_set (k : Fin 4) : (pslice k).view.set = (prect k).set := View.set_slice_whole cc0_scratch0 (prect k)
theorem rslot_set (k : Fin 4) : (rslot k).view.set = (srect k).set :=
  (View.set_reshape (rM.access (srect k)) squeezes_S1x128x2048_S128x2048.numel_eq).trans (View.set_slice_whole cc0_scratch1 (srect k))
theorem lslot_set (k : Fin 4) : (lslot k).view.set = (srect k).set :=
  (View.set_reshape (lM.access (srect k)) squeezes_S1x128x2048_S128x2048.numel_eq).trans (View.set_slice_whole cc0_scratch2 (srect k))

theorem free_pslice (k : Fin 4) : free (F := F) c (pslice k)
    = iprop(∃ f : Buf (Elt F) ((c : Thread nD τ).loc cc0_scratch0), ((c : Thread nD τ).loc cc0_scratch0) ↦[(prect k).set]{fullShare} f) := by
  have h := free_eq (F := F) c (pslice k)
  rw [pslice_set] at h
  exact h
theorem free_rslot (k : Fin 4) : free (F := F) c (rslot k)
    = iprop(∃ f : Buf (Elt F) ((c : Thread nD τ).loc cc0_scratch1), ((c : Thread nD τ).loc cc0_scratch1) ↦[(srect k).set]{fullShare} f) := by
  have h := free_eq (F := F) c (rslot k)
  rw [rslot_set] at h
  exact h
theorem free_lslot (k : Fin 4) : free (F := F) c (lslot k)
    = iprop(∃ f : Buf (Elt F) ((c : Thread nD τ).loc cc0_scratch2), ((c : Thread nD τ).loc cc0_scratch2) ↦[(srect k).set]{fullShare} f) := by
  have h := free_eq (F := F) c (lslot k)
  rw [lslot_set] at h
  exact h

/-- A buffer whole at some contents is the parts of a disjoint covering family, each at some contents. -/
theorem cut {ℓ : Loc nD τ sig} (f₀ : Buf (Elt F) ℓ) (I : Fin 4 → Finset (Idx ℓ)) (hd : ∀ b b', b ≠ b' → Disjoint (I b) (I b')) (hc : Finset.univ.biUnion I = Finset.univ) :
    (iprop(∃ f : Buf (Elt F) ℓ, ℓ ↦{fullShare} f) : sProp 𝕄) = quad fun k => iprop(∃ f : Buf (Elt F) ℓ, ℓ ↦[I k]{fullShare} f) := by
  rw [← bigSep_four]
  refine equiv_iff.mp ⟨show _ ⊢ (_ : sProp 𝕄) from ?_, Ring.pointsTo_blocks_join_exists I hd hc f₀⟩
  iintro ⟨%f, H⟩
  have h : (ℓ ↦{fullShare} f : sProp 𝕄) ⊢ bigSep Finset.univ fun k => iprop(∃ f : Buf (Elt F) ℓ, ℓ ↦[I k]{fullShare} f) :=
    (Entails.of_eq (Ring.pointsTo_blocks (Ix := Unit) (Name := ℕ) (U := UU) (Lvl := ℕ) I hd hc f)).trans
      (bigSep_mono fun k _ => show (ℓ ↦[I k]{fullShare} f : sProp 𝕄) ⊢ iprop(∃ f : Buf (Elt F) ℓ, ℓ ↦[I k]{fullShare} f) from by
        iintro H; iexists f; iexact H)
  iapply h; iexact H

include m in
/-- The local product's buffer is its four chunks; -/
theorem cutP : (iprop(∃ f : Buf (Elt F) ((c : Thread nD τ).loc cc0_scratch0), ((c : Thread nD τ).loc cc0_scratch0) ↦{fullShare} f) : sProp 𝕄)
    = quad fun k => free (F := F) c (pslice k) := by
  rw [cut (m ((c : Thread nD τ).loc cc0_scratch0)) (fun k => (prect k).set) prect_disjoint prect_cover]
  simp only [free_pslice]
include m in
/-- each landing buffer its four slots. -/
theorem cutR : (iprop(∃ f : Buf (Elt F) ((c : Thread nD τ).loc cc0_scratch1), ((c : Thread nD τ).loc cc0_scratch1) ↦{fullShare} f) : sProp 𝕄)
    = quad fun k => free (F := F) c (rslot k) := by
  rw [cut (m ((c : Thread nD τ).loc cc0_scratch1)) (fun k => (srect k).set) srect_disjoint srect_cover]
  simp only [free_rslot]
include m in
theorem cutL : (iprop(∃ f : Buf (Elt F) ((c : Thread nD τ).loc cc0_scratch2), ((c : Thread nD τ).loc cc0_scratch2) ↦{fullShare} f) : sProp 𝕄)
    = quad fun k => free (F := F) c (lslot k) := by
  rw [cut (m ((c : Thread nD τ).loc cc0_scratch2)) (fun k => (srect k).set) srect_disjoint srect_cover]
  simp only [free_lslot]

end Cut

/-! ## The pipeline's proof data -/

/-- The transfer semaphores, by kind and chunk. -/
abbrev osem (p : Fin 4 × Fin 4) : SemLoc sig := .dma (dsem p.1 p.2)

theorem fin_N (t : Fin cfg0.N) : t = t0_0 := fin_N0 t

/-- The tokens of the duties device `c` pays: one unit to each neighbour's barrier cell, its own send cells, its neighbours'
    receive cells. -/
def payToks (c : Dev nD) : sProp 𝕄 :=
  iprop(dutyTok ER (barCell (prv c)) 0 true ∗ dutyTok ER (barCell (nxt c)) 0 false
    ∗ (quad fun k => tok c 0 k) ∗ (quad fun k => tok (nxt c) 1 k) ∗ (quad fun k => tok c 2 k) ∗ (quad fun k => tok (prv c) 3 k))
/-- Its positions, at round 0 of each of its cells, -/
def atStart (c : Dev nD) : sProp 𝕄 :=
  iprop(atPos ER (barCell c) 0 ∅ 0 ∗ (quad fun k => pos c 0 k 0) ∗ (quad fun k => pos c 1 k 0) ∗ (quad fun k => pos c 2 k 0) ∗ (quad fun k => pos c 3 k 0))
/-- and the two beside the cells' records: the ghost state device `c` starts from. -/
def G' (c : Dev nD) : sProp 𝕄 := iprop(∃ K, records m ρ K ∗ atStart c ∗ payToks c)

/-- The credit device `c` waits with: two units on its barrier cell, and what its neighbours send it. -/
def creds (c : Dev nD) : sProp 𝕄 :=
  iprop(cred (tallyAt (barCell c) () 2) ∗ (quad fun k => cred (tallyAt (gc c 1 k) () (nR (prv c) k))) ∗ (quad fun k => cred (tallyAt (gc c 3 k) () (nL (nxt c) k))))

def start (c : Dev nD) : sProp 𝕄 := iprop(G' m ρ c ∗ creds c ∗ levAts L lv)

/-- The three scratch buffers, whole, at contents not stated. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every semaphore of the kernel's own at zero, by kind. -/
def zeros (c : Dev nD) : sProp 𝕄 := bigSep Finset.univ fun kd : Fin 4 => bigSep Finset.univ fun k : Fin 4 => semVal (gc c kd k) 0

def Φ₀ (c : Dev nD) : sProp 𝕄 := iprop(start m ρ c ∗ scratch c)
def Φ₁ (c : Dev nD) : sProp 𝕄 := iprop(scratch (F := F) c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xstg m ρ c) ∗ stg c cc0_stg1_0 (ystg m ρ c) ∗ stg c cc0_stg2_0 (outAt m ρ c))

/-- What the body ends with, once its cells are closed. -/
theorem post_close (K : Dev nD × Fin 17 → ℕ) (c : Dev nD) :
    iprop(records m ρ K ∗ Post m ρ c) ⊢ |={Set.univ}=> bodyPost m ρ c := by
  unfold Post
  iintro ⟨#HR, HB, H0, H1, H2, H3, HO, Hx, Hy, Ho, Hp, Hr, Hl⟩
  ihave H0 := (Entails.of_eq (bigSep_four fun k => pos (F := F) c 0 k (endRound c 0 k)).symm) $$ H0
  ihave H1 := (Entails.of_eq (bigSep_four fun k => pos (F := F) c 1 k (endRound c 1 k)).symm) $$ H1
  ihave H2 := (Entails.of_eq (bigSep_four fun k => pos (F := F) c 2 k (endRound c 2 k)).symm) $$ H2
  ihave H3 := (Entails.of_eq (bigSep_four fun k => pos (F := F) c 3 k (endRound c 3 k)).symm) $$ H3
  imod (close_bar m ρ K c) $$ [HB] with HB
  · isplitr; · iexact HR
    iexact HB
  imod (close_kind m ρ K c 0) $$ [H0] with H0
  · isplitr; · iexact HR
    iexact H0
  imod (close_kind m ρ K c 1) $$ [H1] with H1
  · isplitr; · iexact HR
    iexact H1
  imod (close_kind m ρ K c 2) $$ [H2] with H2
  · isplitr; · iexact HR
    iexact H2
  imod (close_kind m ρ K c 3) $$ [H3] with H3
  · isplitr; · iexact HR
    iexact H3
  imodintro
  unfold bodyPost Φ₁ zeros scratch Dat.owesAt Pipeline.owesWithin owe xPts yPts oPts
  rw [cutP m c, cutR m c, cutL m c, bigSep_four fun kd : Fin 4 => bigSep Finset.univ fun k : Fin 4 => (semVal (gc c kd k) 0 : sProp 𝕄)]
  rw [show (dats m ρ 0 c).owed t0_0.succ = 0 from rfl]
  icases HO with ⟨%W, HO⟩
  isplitl [Hp Hr Hl HB H0 H1 H2 H3]
  · isplitl [Hp Hr Hl]
    · isplitl [Hp]; · iexact Hp
      isplitl [Hr] <;> iassumption
    isplitl [H0 H1 H2 H3]
    · isplitl [H0]; · iexact H0
      isplitl [H1]; · iexact H1
      isplitl [H2] <;> iassumption
    iexact HB
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

/-- The body, from what the pipeline gives it to what it returns. -/
theorem sound_body (c : Dev nD) :
    bodyPre m ρ c ⊢ wp frame (wpE (defs₀ (F := F)) 𝒱₀ (c : Thread nD τ) none) Set.univ (prog (F := F)) (fun _ => bodyPost m ρ c) := by
  refine BI.Entails.trans (show bodyPre m ρ c ⊢ wp frame (wpE (defs₀ (F := F)) 𝒱₀ (c : Thread nD τ) none) Set.univ (prog (F := F)) (fun _ => iprop(|={Set.univ}=> bodyPost m ρ c)) from ?_) (wp_fupd _ _ _ _ _)
  unfold bodyPre Φ₀ start G' scratch
  rw [cutP m c, cutR m c, cutL m c]
  iintro ⟨⟨⟨⟨%K, #HR, Hat, Htk⟩, Hcr, Hlev⟩, Hp, Hr, Hl⟩, HO, ⟨%d0, %g0, %hg0, Hx⟩, ⟨%d1, %g1, %hg1, Hy⟩, ⟨%d2, %g2, %hg2, Ho⟩⟩
  have hx : g0 = xstg m ρ c := by rw [hg0]; unfold Dat.before; rw [if_pos (fetch0_0 t0_0)]; rfl
  have hy : g1 = ystg m ρ c := by rw [hg1]; unfold Dat.before; rw [if_pos (fetch0_1 t0_0)]; rfl
  subst hx hy
  unfold Dat.owesAt Pipeline.owesWithin
  icases HO with ⟨%W, %hW, HO⟩
  rw [show (dats m ρ 0 c).owed t0_0.castSucc = O₀ c from rfl]
  unfold atStart payToks creds
  icases Hat with ⟨HB, H0, H1, H2, H3⟩
  icases Htk with ⟨T1, T2, T3, T4, T5, T6⟩
  icases Hcr with ⟨C1, C2, C3⟩
  iapply (body_all m ρ K c)
  isplitl
  · unfold Pre xPts yPts oPts owe
    isplitr; · iexact HR
    isplitl [Hlev]; · iexact Hlev
    isplitl [C1]; · iexact C1
    isplitl [C2]; · iexact C2
    isplitl [C3]; · iexact C3
    isplitl [HB]; · iexact HB
    isplitl [H0]; · iexact H0
    isplitl [H1]; · iexact H1
    isplitl [H2]; · iexact H2
    isplitl [H3]; · iexact H3
    isplitl [T1]; · iexact T1
    isplitl [T2]; · iexact T2
    isplitl [T3]; · iexact T3
    isplitl [T4]; · iexact T4
    isplitl [T5]; · iexact T5
    isplitl [T6]; · iexact T6
    isplitl [HO]; · iexists W; iexact HO
    isplitl [Hx]; · iexact Hx
    isplitl [Hy]; · iexact Hy
    isplitl [Ho]; · iexists _; iexact Ho
    isplitl [Hp]; · iexact Hp
    isplitl [Hr]; · iexact Hr
    iexact Hl
  · iintro HP
    iapply (post_close m ρ K c)
    isplitr; · iexact HR
    iexact HP

set_option maxRecDepth 4000 in
/-- The body obligation on device `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 3) ∗ Φ (1 : Fin 3) ∗ Φ (2 : Fin 3)) from bigSep_W0]
  rw [show ∀ Φ : Fin cfg0.W → sProp 𝕄, bigSep Finset.univ Φ = iprop(Φ (0 : Fin 3) ∗ Φ (1 : Fin 3) ∗ Φ (2 : Fin 3)) from bigSep_W0]
  simp only [owns_whole_eq]
  exact sound_body m ρ c

end Cert.KernelIdealProof

end
-- ==== Proof.Run.lean ====
/- The launch: the semaphores' cells and their ghost state made and dealt around the ring, and what every run of the program
   ends with. -/
module

public import Idealize.ShloMosaic.Lib.Pipeline.CollectiveSegs
public import proofs.«01_k».proof.Proof.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ring : Dev nD ≃ Dev nD := ⟨nxt, prv, prv_nxt, nxt_prv⟩

theorem ownSemFacts : Pipeline.OwnSemFacts cfg0.spec osem := by decide

theorem share_eq (c : Dev nD) (w : Fin cfg0.W) : (dats m ρ 0 c).share w = fullShare := by unfold Dat.share; split <;> rfl

/-! ## The cells and their tokens as the launch makes them -/

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  subst h1
  exact congrArg (Prod.mk c) (csem_injective (congrArg Prod.snd h))
def ringCells : Finset (GSem nD τ sig) := Finset.univ.map ⟨kcell, kcell_injective⟩

/-- Two tokens a cell, whichever of them its schedule has. -/
abbrev tokOf (x : (Dev nD × Fin 17) × Bool) : GSem nD τ sig × ℕ × Bool := (kcell x.1, 0, x.2)
theorem tokOf_injective : Function.Injective tokOf := by
  rintro ⟨x, b⟩ ⟨x', b'⟩ h
  have h1 : x = x' := kcell_injective (congrArg Prod.fst h)
  have h2 : b = b' := congrArg (fun y : GSem nD τ sig × ℕ × Bool => y.2.2) h
  subst h1 h2; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun j : Fin 17 => bigSep Finset.univ fun b : Bool => dutyTok ER (kcell (c, j)) 0 b

/-- What the launch element deals device `c`. -/
def G (c : Dev nD) : sProp 𝕄 :=
  iprop((bigSep Finset.univ fun j : Fin 17 => roundState ER (ringRd m ρ) (kcell (c, j)) 0)
    ∗ (bigSep Finset.univ fun j : Fin 17 => iprop(atPos ER (kcell (c, j)) 0 ∅ 0 ∗ reached ER (kcell (c, j)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ix_injective : Function.Injective (fun p : Fin 4 × Fin 4 => ix p.1 p.2) := by decide
theorem erase_zero : (Finset.univ.erase 0 : Finset (Fin 17)) = Finset.univ.map ⟨fun p : Fin 4 × Fin 4 => ix p.1 p.2, ix_injective⟩ := by decide

/-- A device's seventeen cells: the barrier's, then the sixteen by kind and chunk. -/
theorem seventeen (Φ : Fin 17 → sProp 𝕄) :
    bigSep Finset.univ Φ = iprop(Φ 0 ∗ bigSep Finset.univ fun kd : Fin 4 => bigSep Finset.univ fun k : Fin 4 => Φ (ix kd k)) := by
  rw [bigSep_univ_at _ 0, erase_zero, bigSep_map, bigSep_univ_prod]
  rfl
theorem cell_bar (c : Dev nD) : kcell (c, 0) = barCell c := by unfold kcell; rw [csem_zero]
theorem cell_ix (c : Dev nD) (kd k : Fin 4) : kcell (c, ix kd k) = gc c kd k := by unfold kcell; rw [csem_ix]

/-- The kernel's own semaphores are the sixteen; -/
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  rw [bigSep_univ_prod]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, seventeen]
  simp only [cell_bar, cell_ix]
  unfold zeros
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- The tokens a device's own cells have in the schedule. -/
def ownToks (c : Dev nD) : sProp 𝕄 :=
  iprop(dutyTok ER (barCell c) 0 true ∗ dutyTok ER (barCell c) 0 false
    ∗ (quad fun k => tok c 0 k) ∗ (quad fun k => tok c 1 k) ∗ (quad fun k => tok c 2 k) ∗ (quad fun k => tok c 3 k))

theorem toks_own (c : Dev nD) : (toks c : sProp 𝕄) ⊢ ownToks c := by
  have hb (Φ : Bool → sProp 𝕄) : bigSep Finset.univ Φ = iprop(Φ true ∗ Φ false) := bigSep_univ_eq_bigSepL [true, false] (by decide) (by decide) Φ
  unfold toks ownToks
  rw [seventeen]
  simp only [cell_bar, cell_ix, hb]
  have h : (bigSep Finset.univ fun kd : Fin 4 => bigSep Finset.univ fun k : Fin 4 => iprop(dutyTok ER (gc c kd k) 0 true ∗ dutyTok ER (gc c kd k) 0 false) : sProp 𝕄)
      ⊢ iprop((quad fun k => tok c 0 k) ∗ (quad fun k => tok c 1 k) ∗ (quad fun k => tok c 2 k) ∗ (quad fun k => tok c 3 k)) := by
    have h1 (kd k : Fin 4) : iprop(dutyTok ER (gc c kd k) 0 true ∗ dutyTok ER (gc c kd k) 0 false) ⊢ (tok c kd k : sProp 𝕄) := by
      iintro ⟨-, H⟩; iexact H
    refine (bigSep_mono fun kd _ => bigSep_mono fun k _ => h1 kd k).trans ?_
    simp only [bigSep_four]
    exact BI.Entails.refl _
  iintro ⟨⟨H1, H2⟩, H3⟩
  isplitl [H1]; · iexact H1
  isplitl [H2]; · iexact H2
  iapply h
  iexact H3

theorem bigSep_six (A B C D E H : Dev nD → sProp 𝕄) : (bigSep Finset.univ fun c => iprop(A c ∗ B c ∗ C c ∗ D c ∗ E c ∗ H c))
    = iprop(bigSep Finset.univ A ∗ bigSep Finset.univ B ∗ bigSep Finset.univ C ∗ bigSep Finset.univ D ∗ bigSep Finset.univ E ∗ bigSep Finset.univ H) := by
  rw [bigSep_sep', bigSep_sep', bigSep_sep', bigSep_sep', bigSep_sep']

theorem toks_around : (bigSep Finset.univ fun c : Dev nD => (toks c : sProp 𝕄)) ⊢ bigSep Finset.univ fun c : Dev nD => payToks c := by
  refine (bigSep_mono fun c _ => toks_own c).trans ?_
  unfold ownToks payToks
  rw [bigSep_six, bigSep_six]
  rw [bigSep_univ_equiv ring.symm fun c : Dev nD => (dutyTok ER (barCell c) 0 true : sProp 𝕄),
    bigSep_univ_equiv ring fun c : Dev nD => (dutyTok ER (barCell c) 0 false : sProp 𝕄),
    bigSep_univ_equiv ring fun c : Dev nD => (quad fun k => tok c 1 k : sProp 𝕄),
    bigSep_univ_equiv ring.symm fun c : Dev nD => (quad fun k => tok c 3 k : sProp 𝕄)]
  exact BI.Entails.refl _

theorem positions (c : Dev nD) : (bigSep Finset.univ fun k : Fin 17 => (atPos ER (kcell (c, k)) 0 ∅ 0 : sProp 𝕄)) = atStart c := by
  rw [seventeen]; unfold atStart
  simp only [cell_bar, cell_ix, bigSep_four]

theorem ghost_intro (K : Dev nD × Fin 17 → ℕ) (c : Dev nD) : iprop(records m ρ K ∗ (atStart c ∗ payToks c)) ⊢ G' m ρ c := by
  unfold G'
  iintro H; iexists K; iexact H

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (ringRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m ρ) κ (kcell ck) : sProp 𝕄))) $$ HI
  icases HK with ⟨%K, #HI⟩
  ihave Htk := (toks_around (F := F)) $$ Htok
  ihave Hat := (Entails.of_eq (bigSep_congr fun c _ => positions (F := F) c)) $$ Hat
  iapply (bigSep_with_persistent (R := records m ρ K) fun c _ => ghost_intro m ρ K c)
  isplitr
  · unfold records; isplitl; · iexact HI
    iexact HR
  · iapply (Entails.of_eq (bigSep_sep' Finset.univ (fun c : Dev nD => (atStart c : sProp 𝕄)) payToks).symm)
    isplitl [Hat]; · iexact Hat
    iexact Htk

/-- Every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Every device `d` owing `n d` on a semaphore of device `f d`, `f` a bijection, device `c` has the credit owed to it. -/
theorem launchCred_at (sm : SemLoc sig) (f finv : Dev nD → Dev nD) (h1 : ∀ c, f (finv c) = c) (h2 : ∀ d, finv (f d) = d) (n : Dev nD → ℕ) (c : Dev nD) :
    (Pipeline.launchCred (fun d => tallyAt ((f d : Thread nD τ), sm) () (n d)) c : sProp 𝕄) ⊢ cred (tallyAt ((c : Thread nD τ), sm) () (n (finv c))) := by
  refine (Pipeline.launchCred_elim _ c sm).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) ((f d : Thread nD τ), sm) (Finsupp.single () (n d)) ((c : Thread nD τ), sm) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem creds_1 (c : Dev nD) : (bigSep Finset.univ fun k : Fin 4 => (Pipeline.launchCred (fun d => tallyAt (gc (nxt d) 1 k) () (nR d k)) c : sProp 𝕄))
    ⊢ (quad fun k => cred (tallyAt (gc c 1 k) () (nR (prv c) k))) := by
  rw [← bigSep_four]
  exact bigSep_mono fun k _ => launchCred_at (.dma (dsem 1 k)) nxt prv nxt_prv prv_nxt (fun d => nR d k) c

theorem creds_3 (c : Dev nD) : (bigSep Finset.univ fun k : Fin 4 => (Pipeline.launchCred (fun d => tallyAt (gc (prv d) 3 k) () (nL d k)) c : sProp 𝕄))
    ⊢ (quad fun k => cred (tallyAt (gc c 3 k) () (nL (nxt c) k))) := by
  rw [← bigSep_four]
  exact bigSep_mono fun k _ => launchCred_at (.dma (dsem 3 k)) prv nxt prv_nxt nxt_prv (fun d => nL d k) c

theorem creds_intro (c : Dev nD) : (Pipeline.launchCred O₀ c : sProp 𝕄) ⊢ creds c := by
  have e : (Pipeline.launchCred O₀ c : sProp 𝕄)
      = iprop((((bigSep Finset.univ fun k : Fin 4 => Pipeline.launchCred (fun d => tallyAt (gc (nxt d) 1 k) () (nR d k)) c)
          ∗ (bigSep Finset.univ fun k : Fin 4 => Pipeline.launchCred (fun d => tallyAt (gc (prv d) 3 k) () (nL d k)) c))
          ∗ Pipeline.launchCred (fun d => tallyAt (barCell (nxt d)) () 1) c) ∗ Pipeline.launchCred (fun d => tallyAt (barCell (prv d)) () 1) c) := by
    rw [← Pipeline.launchCred_sum, ← Pipeline.launchCred_sum, ← Pipeline.launchCred_add, ← Pipeline.launchCred_add, ← Pipeline.launchCred_add]
    rfl
  rw [e]
  unfold creds
  iintro ⟨⟨⟨HR, HL⟩, HB1⟩, HB2⟩
  ihave HB1 := (launchCred_at (.reg barS) nxt prv nxt_prv prv_nxt (fun _ => 1) c) $$ HB1
  ihave HB2 := (launchCred_at (.reg barS) prv nxt prv_nxt nxt_prv (fun _ => 1) c) $$ HB2
  ihave HR := (creds_1 (F := F) c) $$ HR
  ihave HL := (creds_3 (F := F) c) $$ HL
  isplitl [HB1 HB2]
  · rw [show (tallyAt (barCell c) () 2 : CellTallies nD τ sig Unit) = tallyAt (barCell c) () 1 + tallyAt (barCell c) () 1 from (tallyAt_add (barCell c) () 1 1).symm]
    iapply (cred_add _ _).2
    isplitl [HB1] <;> iassumption
  isplitl [HR] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz, HB⟩
  isplitl [HB]; · iexact HB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of thirty-two devices, for any float values, from any memory with zero counters: every weakly fair execution
    of the program terminates without a fault, and every final state has each device's arrays at the contents `finalA` and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were. -/
theorem finalA_x (c : Dev nD) : finalA m ρ c (0 : Fin 3) = m ((c : Thread nD τ).loc main_arg0) :=
  (dats (F := F) m ρ 0 c).arrAt_in (0 : Fin 3) rfl _
theorem finalA_y (c : Dev nD) : finalA m ρ c (1 : Fin 3) = m ((c : Thread nD τ).loc main_arg1) :=
  (dats (F := F) m ρ 0 c).arrAt_in (1 : Fin 3) rfl _

/-! ## The arrays' final contents -/

/-- A device stages its whole blocks of the operands. -/
theorem xstg_eq (c : Dev nD) : xstg m ρ c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
theorem ystg_eq (c : Dev nD) : ystg m ρ c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

/-- The result's array ends at the block the device computed. -/
theorem finalA_out (c : Dev nD) : finalA m ρ c (2 : Fin 3) = outAt m ρ c := by
  have ho : ((cfg0.win (2 : Fin 3)).blk t0_0).view.read (Elt F) ((dats (F := F) m ρ 0 c).arrAt (2 : Fin 3) cfg0.N)
      = (dats (F := F) m ρ 0 c).flushed (2 : Fin 3) t0_0 := by
    rw [show cfg0.N = (t0_0 : Fin cfg0.N).val + 1 from rfl, (dats (F := F) m ρ 0 c).arrAt_succ (2 : Fin 3) t0_0,
      show (cfg0.win (2 : Fin 3)).flush t0_0 = true from flush0_2 t0_0, if_pos rfl]
    exact View.read_write_univ _ _
  have hz : (fun a => (win0_2.index t0_0) a * main_v1.ty.shape.size a) = fun _ => 0 := funext fun a => by fin_cases a <;> decide
  have hr := fun f => Memref.read_access_unit_zero (Elt F) main_v1 hz (fun a => by fin_cases a <;> decide) f
  rw [hr] at ho
  exact ho

/-- Every run leaves the operands as they were, the result's array at the block each device computed, and every counter zero. -/
theorem run_final : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun r h => ⟨fun c => ⟨(h.1 c 2).trans (finalA_out m ρ c), (h.1 c 0).trans (finalA_x m ρ c),
    (h.1 c 1).trans (finalA_y m ρ c)⟩, h.2⟩) (run_main m ρ)

end Cert.KernelIdealProof

end
-- ==== Proof.Value.lean ====
/- What each device's result block is, as a sum: every device's own product of chunk `k` is one device's share of the
   contraction, and the four shares of a ring together are the reference's whole contraction. -/
module

public import proofs.«01_k».proof.Proof.Run
public import proofs.«01_k».proof.Proof.Gen.ReferenceIdeal.Run
public import Idealize.ShloMosaic.Lib.Layout
public import Idealize.ShloMosaic.Lib.ValueLayout
public import Idealize.ShloMosaic.Lib.ValueIdxCore
public import Idealize.ShloMosaic.PureOps.Ideal.Laws

@[expose] public section

noncomputable section

namespace Cert.KernelIdealProof

open Cert.KernelIdeal Cert.KernelIdeal.Gen
open Idealize.ShloMosaic Idealize.ShloMosaic.TcCoe Idealize.ShloMosaic.ValueIdx Idealize.SL.Sem
open scoped BigOperators

/-! ## The two contractions at an index -/

/-- One device's product of two blocks, both contracted along their rows. -/
theorem dot_rows_apply (lhs : FVec Ideal S512x128 .f32) (rhs : FVec Ideal S512x2048 .f32) (i : Fin 128) (j : Fin 2048) :
    (FloatOps.matmul dot_S512x128_S512x2048_S128x2048_0_0_1_1_n_n none lhs rhs (constant S128x2048 .f32 0x00000000#32) : FVec Ideal S128x2048 .f32) (ix2 i j)
      = ∑ r : Fin 512, lhs (ix2 r i) * rhs (ix2 r j) := by
  rw [Ideal.matmul_constant_zero_apply,
    ← Equiv.sum_comp (contrEquiv1 dot_S512x128_S512x2048_S128x2048_0_0_1_1_n_n 512 rfl rfl).symm]
  refine Finset.sum_congr rfl fun r _ => ?_
  have hk := contrEquiv1_symm_val dot_S512x128_S512x2048_S128x2048_0_0_1_1_n_n 512 rfl rfl r
  have el : dot_S512x128_S512x2048_S128x2048_0_0_1_1_n_n.lhsIdx (ix2 i j) ((contrEquiv1 dot_S512x128_S512x2048_S128x2048_0_0_1_1_n_n 512 rfl rfl).symm r) = ix2 r i := by
    funext a; apply Fin.ext
    match a with
    | ⟨0, _⟩ => exact hk
    | ⟨1, _⟩ => rfl
  have er : dot_S512x128_S512x2048_S128x2048_0_0_1_1_n_n.rhsIdx (ix2 i j) ((contrEquiv1 dot_S512x128_S512x2048_S128x2048_0_0_1_1_n_n 512 rfl rfl).symm r) = ix2 r j := by
    funext a; apply Fin.ext
    match a with
    | ⟨0, _⟩ => exact hk
    | ⟨1, _⟩ => rfl
  rw [el, er]

/-- The reference's value of its two whole operands. -/
def refOut (x : FVec Ideal Cert.ReferenceIdeal.S2048x512 .f32) (y : FVec Ideal Cert.ReferenceIdeal.S2048x2048 .f32) :
    FVec Ideal Cert.ReferenceIdeal.S512x2048 .f32 :=
  Host.dotGeneral Cert.ReferenceIdeal.dot_S512x2048_S2048x2048_S512x2048_1_0_0_1_n_n none
    (transpose Cert.ReferenceIdeal.S512x2048 [1, 0] x Cert.ReferenceIdeal.Gen.transposes_S2048x512_S512x2048_1_0) y

/-- It is the sum over all the rows. -/
theorem refOut_apply (x : FVec Ideal Cert.ReferenceIdeal.S2048x512 .f32) (y : FVec Ideal Cert.ReferenceIdeal.S2048x2048 .f32)
    (p : Fin 512) (j : Fin 2048) : refOut x y (ix2 p j) = ∑ q : Fin 2048, x (ix2 q p) * y (ix2 q j) := by
  unfold refOut Host.dotGeneral
  rw [Ideal.dotGeneral_apply,
    ← Equiv.sum_comp (contrEquiv1 Cert.ReferenceIdeal.dot_S512x2048_S2048x2048_S512x2048_1_0_0_1_n_n 2048 rfl rfl).symm]
  refine Finset.sum_congr rfl fun q _ => ?_
  have hk := contrEquiv1_symm_val Cert.ReferenceIdeal.dot_S512x2048_S2048x2048_S512x2048_1_0_0_1_n_n 2048 rfl rfl q
  have el : Cert.ReferenceIdeal.dot_S512x2048_S2048x2048_S512x2048_1_0_0_1_n_n.lhsIdx (ix2 p j) ((contrEquiv1 Cert.ReferenceIdeal.dot_S512x2048_S2048x2048_S512x2048_1_0_0_1_n_n 2048 rfl rfl).symm q) = ix2 p q := by
    funext a; apply Fin.ext
    match a with
    | ⟨0, _⟩ => rfl
    | ⟨1, _⟩ => exact hk
  have er : Cert.ReferenceIdeal.dot_S512x2048_S2048x2048_S512x2048_1_0_0_1_n_n.rhsIdx (ix2 p j) ((contrEquiv1 Cert.ReferenceIdeal.dot_S512x2048_S2048x2048_S512x2048_1_0_0_1_n_n 2048 rfl rfl).symm q) = ix2 q j := by
    funext a; apply Fin.ext
    match a with
    | ⟨0, _⟩ => exact hk
    | ⟨1, _⟩ => rfl
  rw [el, er, transpose_ix2_apply]

/-! ## The rows in four shares -/

/-- Row `r` of the block at place `z`. -/
def row (z : ℕ) (r : Fin 512) : Fin 2048 := ⟨(z * 512 + r.val) % 2048, Nat.mod_lt _ (by decide)⟩

/-- A sum over all the rows is the four blocks' sums together. -/
theorem sum_rows (g : Fin 2048 → EReal) : ∑ q, g q
    = (∑ r, g (row 0 r)) + (∑ r, g (row 1 r)) + (∑ r, g (row 2 r)) + ∑ r, g (row 3 r) := by
  have e : ∑ q, g q = ∑ z : Fin 4, ∑ r : Fin 512, g (row z.val r) := by
    refine (Equiv.sum_comp (finProdFinEquiv : Fin 4 × Fin 512 ≃ Fin 2048) g).symm.trans ?_
    rw [Fintype.sum_prod_type]
    refine Finset.sum_congr rfl fun z _ => Finset.sum_congr rfl fun r _ => congrArg g (Fin.ext ?_)
    have hz := z.isLt
    have hr := r.isLt
    show r.val + 512 * z.val = (z.val * 512 + r.val) % 2048
    omega
  rw [e, Fin.sum_univ_four]
  rfl

/-- A device's block of the left operand is the rows at its place; -/
theorem blockX_apply (c : Dev nD) (x : FVec Ideal Cert.ReferenceIdeal.S2048x512 .f32) (r : Fin 512) (p : Fin 512) :
    Layout.blockN ⟨2, ![512, 512]⟩ ⟨2, ![2048, 512]⟩ (Layout.meshBlock [2, 4, 4] ![[2], []] c) x (by decide) (ix2 r p) = x (ix2 (row (zof c) r) p) := by
  refine congrArg x (funext fun a => Fin.ext ?_)
  have hr := r.isLt
  match a with
  | ⟨0, _⟩ =>
    show (c.val / 1 % 4 * 1 + 0) * 512 + r.val = (c.val % 4 * 512 + r.val) % 2048
    omega
  | ⟨1, _⟩ =>
    show 0 * 512 + p.val = p.val
    omega
/-- of the right operand, likewise. -/
theorem blockY_apply (c : Dev nD) (y : FVec Ideal Cert.ReferenceIdeal.S2048x2048 .f32) (r : Fin 512) (j : Fin 2048) :
    Layout.blockN ⟨2, ![512, 2048]⟩ ⟨2, ![2048, 2048]⟩ (Layout.meshBlock [2, 4, 4] ![[2], []] c) y (by decide) (ix2 r j) = y (ix2 (row (zof c) r) j) := by
  refine congrArg y (funext fun a => Fin.ext ?_)
  have hr := r.isLt
  match a with
  | ⟨0, _⟩ =>
    show (c.val / 1 % 4 * 1 + 0) * 512 + r.val = (c.val % 4 * 512 + r.val) % 2048
    omega
  | ⟨1, _⟩ =>
    show 0 * 2048 + j.val = j.val
    omega
/-- Its block of the result is the 128 rows at its place. -/
theorem blockOut_apply (c : Dev nD) (v : FVec Ideal Cert.ReferenceIdeal.S512x2048 .f32) (i : Fin 128) (j : Fin 2048) :
    Layout.blockN ⟨2, ![128, 2048]⟩ ⟨2, ![512, 2048]⟩ (Layout.meshBlock [2, 4, 4] ![[2], []] c) v (by decide) (ix2 i j)
      = v (ix2 (⟨128 * (zof c) + i.val, by have := zof_lt c; omega⟩ : Fin 512) j) := by
  refine congrArg v (funext fun a => Fin.ext ?_)
  match a with
  | ⟨0, _⟩ =>
    show (c.val / 1 % 4 * 1 + 0) * 128 + i.val = 128 * (c.val % 4) + i.val
    omega
  | ⟨1, _⟩ =>
    show 0 * 2048 + j.val = j.val
    omega

/-! ## A device's own products -/

variable (m : (ℓ : Loc nD τ sig) → Buf (Elt Ideal) ℓ) (ρ : Dev nD → PrngReg)

/-- Column `i` of chunk `k`. -/
def col (k : Fin 4) (i : Fin 128) : Fin 512 := ⟨128 * k.val + i.val, by have := k.isLt; have := i.isLt; omega⟩

/-- A device's staged blocks, as vectors. -/
def xAt (c : Dev nD) : FVec Ideal S512x512 .f32 := xstg m ρ c
def yAt (c : Dev nD) : FVec Ideal S512x2048 .f32 := ystg m ρ c

/-- Chunk `k` of a device's product is the sum over its own rows. -/
theorem P_apply (c : Dev nD) (k : Fin 4) (i : Fin 128) (j : Fin 2048) : P m ρ c k (ix2 i j)
    = ∑ r : Fin 512, xAt m ρ c (ix2 r (col k i)) * yAt m ρ c (ix2 r j) := by
  unfold P k0_pay3
  simp only [shapeCast_self]
  refine (dot_rows_apply _ _ i j).trans (Finset.sum_congr rfl fun r _ => ?_)
  refine congrArg (· * _) (congrArg (xAt m ρ c) (funext fun a => Fin.ext ?_))
  match a with
  | ⟨0, _⟩ =>
    show 0 + 1 * r.val = r.val
    omega
  | ⟨1, _⟩ =>
    show 128 * k.val + 1 * i.val = 128 * k.val + i.val
    omega

/-- The share of the contraction at place `z`. -/
def share (x : FVec Ideal Cert.ReferenceIdeal.S2048x512 .f32) (y : FVec Ideal Cert.ReferenceIdeal.S2048x2048 .f32)
    (p : Fin 512) (j : Fin 2048) (z : ℕ) : EReal := ∑ r : Fin 512, x (ix2 (row z r) p) * y (ix2 (row z r) j)

/-- The devices' memories hold their blocks of the two whole operands. -/
def Agree (x : FVec Ideal Cert.ReferenceIdeal.S2048x512 .f32) (y : FVec Ideal Cert.ReferenceIdeal.S2048x2048 .f32) : Prop :=
  ∀ c : Dev nD, m ((c : Thread nD τ).loc main_arg0) = Layout.blockN ⟨2, ![512, 512]⟩ ⟨2, ![2048, 512]⟩ (Layout.meshBlock [2, 4, 4] ![[2], []] c) x (by decide)
    ∧ m ((c : Thread nD τ).loc main_arg1) = Layout.blockN ⟨2, ![512, 2048]⟩ ⟨2, ![2048, 2048]⟩ (Layout.meshBlock [2, 4, 4] ![[2], []] c) y (by decide)

/-- Then a device's product of chunk `k` is the share at its place, -/
theorem P_share (x : FVec Ideal Cert.ReferenceIdeal.S2048x512 .f32) (y : FVec Ideal Cert.ReferenceIdeal.S2048x2048 .f32) (h : Agree m x y)
    (c : Dev nD) (k : Fin 4) (i : Fin 128) (j : Fin 2048) : P m ρ c k (ix2 i j) = share x y (col k i) j (zof c) := by
  have hx : xAt m ρ c = _ := (xstg_eq m ρ c).trans (h c).1
  have hy : yAt m ρ c = _ := (ystg_eq m ρ c).trans (h c).2
  rw [P_apply, hx, hy]
  exact Finset.sum_congr rfl fun r _ => by rw [blockX_apply, blockY_apply]

/-- two vectors' sum is the sum at each index, -/
theorem addf_at (a b : FVec Ideal S128x2048 .f32) (q : S128x2048.Idx) : (addf a b q : EReal) = a q + b q := rfl

/-- and the result block the four shares together. -/
theorem outAt_apply (x : FVec Ideal Cert.ReferenceIdeal.S2048x512 .f32) (y : FVec Ideal Cert.ReferenceIdeal.S2048x2048 .f32) (h : Agree m x y)
    (c : Dev nD) (k : Fin 4) (hk : zof c = k.val) (i : Fin 128) (j : Fin 2048) : (outAt m ρ c (ix2 i j) : EReal)
      = share x y (col k i) j 0 + share x y (col k i) j 1 + share x y (col k i) j 2 + share x y (col k i) j 3 := by
  fin_cases k <;> simp only [Fin.zero_eta, Fin.mk_one, Fin.reduceFinMk, Fin.isValue, Fin.val_zero, Fin.val_one, Fin.val_two, Fin.coe_ofNat_eq_mod, Nat.reduceMod] at hk ⊢ <;>
    simp [outAt, Sr, Sl, addf_at, zof_nxt, zof_prv, hk, P_share m ρ x y h] <;> ac_rfl

/-- So each device ends with its block of the reference's value. -/
theorem outAt_eq (x : FVec Ideal Cert.ReferenceIdeal.S2048x512 .f32) (y : FVec Ideal Cert.ReferenceIdeal.S2048x2048 .f32) (h : Agree m x y)
    (c : Dev nD) : outAt m ρ c = Layout.blockN ⟨2, ![128, 2048]⟩ ⟨2, ![512, 2048]⟩ (Layout.meshBlock [2, 4, 4] ![[2], []] c) (refOut x y) (by decide) := by
  funext q
  obtain ⟨i, j, rfl⟩ : ∃ (i : Fin 128) (j : Fin 2048), q = ix2 i j := ⟨q 0, q 1, eq_ix2 q⟩
  rw [blockOut_apply, refOut_apply, sum_rows]
  exact outAt_apply m ρ x y h c ⟨zof c, zof_lt c⟩ rfl i j

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsRun
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel as printed: every run ends, its operands unchanged and every counter zero. -/
theorem frame_kernel : Cert.quiescent_Kernel := fun m ρ _ =>
  (θ_run Cert.Kernel.defs _ _).mono (fun r h => ⟨fun c => (h.1 c).2, h.2⟩) (Cert.KernelProof.run_final (F := Bits) m ρ)

/-- The same of its idealization. -/
theorem frame_kernelIdeal : Cert.quiescent_KernelIdeal := fun m ρ _ =>
  (θ_run Cert.KernelIdeal.defs _ _).mono (fun r h => ⟨fun c => (h.1 c).2, h.2⟩) (Cert.KernelIdealProof.run_final (F := Ideal) m ρ)

/-- The reference's runs end with its operands unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that hold the devices' blocks of the reference's operands, each device ends with its block of the
    reference's result. -/
theorem algebraic : Cert.algebraic_KernelIdeal_ReferenceIdeal := by
  intro m g m' g' _ h
  refine ⟨Cert.KernelIdealProof.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun r hr c => ⟨(hr.1 c).1.trans (Cert.KernelIdealProof.outAt_eq m g _ _ h c), (hr.1 c).2⟩)
      (Cert.KernelIdealProof.run_final (F := Ideal) m g)
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
